-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![65536, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S65536x512 : Shape := ⟨2, ![65536, 512]⟩
abbrev S_ : Shape := ⟨0, ![]⟩
abbrev S4 : Shape := ⟨1, ![4]⟩
abbrev S16 : Shape := ⟨1, ![16]⟩
abbrev S1 : Shape := ⟨1, ![1]⟩

abbrev nBuf : Space → Nat
  | .hbm => 2
  | .vmem => 1
  | .smem => 0
  | _ => 0

abbrev bufTy : (tb : Table) → Fin (tcTables nBuf tb) → BufTy
  | .hbm, ⟨0, _⟩ => ⟨S2048x512, .f32⟩
  | .hbm, ⟨1, _⟩ => ⟨S65536x512, .f32⟩
  | .local _ .vmem, ⟨0, _⟩ => ⟨S2048x512, .f32⟩
  | _, _ => ⟨S2048x512, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_57 : BitVec 32 := 1#32
  let v77 : BitVec 32 := Scalar.muli v52 c1_i32_57
  let v78 : BitVec 32 := Scalar.addi c0_i32_58 v77
  v78.toNat
def k0_dev2 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_60 : BitVec 32 := 1#32
  let v79 : BitVec 32 := Scalar.muli v71 c1_i32_60
  let v80 : BitVec 32 := Scalar.addi c0_i32_61 v79
  v80.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_54 : BitVec 32 := 3#32
  let v74 : BitVec 1 := Scalar.cmpi .slt v19 c3_i32_54
  let v81 : BitVec 32 := Scalar.extui v74
  let c0_i32_62 : BitVec 32 := 0#32
  let v82 : BitVec 1 := Scalar.cmpi .ne v81 c0_i32_62
  v82

def k0_dev3 (d0 : Dev nD) : Nat :=
  let c0_i32_935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_52 : BitVec 32 := 8#32
  let v72 : BitVec 32 := Scalar.addi v2 c8_i32_52
  let c1_i32_934 : BitVec 32 := 1#32
  let v1053 : BitVec 32 := Scalar.muli v72 c1_i32_934
  let v1054 : BitVec 32 := Scalar.addi c0_i32_935 v1053
  v1054.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_55 : BitVec 32 := 0#32
  let v75 : BitVec 1 := Scalar.cmpi .sgt v19 c0_i32_55
  let v86 : BitVec 32 := Scalar.extui v75
  let c0_i32_64 : BitVec 32 := 0#32
  let v87 : BitVec 1 := Scalar.cmpi .ne v86 c0_i32_64
  v87

def k0_dev4 (d0 : Dev nD) : Nat :=
  let c0_i32_935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_53 : BitVec 32 := 8#32
  let v73 : BitVec 32 := Scalar.subi v2 c8_i32_53
  let c1_i32_934 : BitVec 32 := 1#32
  let v1053 : BitVec 32 := Scalar.muli v73 c1_i32_934
  let v1054 : BitVec 32 := Scalar.addi c0_i32_935 v1053
  v1054.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_245 : BitVec 32 := 4#32
  let v259 : BitVec 32 := Scalar.muli v19 c4_i32_245
  let c0_i32_246 : BitVec 32 := 0#32
  let v260 : BitVec 32 := Scalar.addi v259 c0_i32_246
  ![v260.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_244 : BitVec 32 := 8#32
  let v256 : BitVec 32 := Scalar.muli v19 c8_i32_244
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v257 : BitVec 32 := Scalar.addi v256 v107
  let c2048_i32 : BitVec 32 := 2048#32
  let v258 : BitVec 32 := Scalar.muli v257 c2048_i32
  let c0_i32_251 : BitVec 32 := 0#32
  ![v258.toNat, 0]
def k0_dev5 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_249 : BitVec 32 := 1#32
  let v263 : BitVec 32 := Scalar.muli v52 c1_i32_249
  let v264 : BitVec 32 := Scalar.addi c0_i32_250 v263
  v264.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_254 : BitVec 32 := 8#32
  let v271 : BitVec 32 := Scalar.muli v19 c8_i32_254
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v272 : BitVec 32 := Scalar.addi v271 v191
  let c2048_i32_255 : BitVec 32 := 2048#32
  let v273 : BitVec 32 := Scalar.muli v272 c2048_i32_255
  let c0_i32_262 : BitVec 32 := 0#32
  ![v273.toNat, 0]
def k0_dev6 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_260 : BitVec 32 := 1#32
  let v278 : BitVec 32 := Scalar.muli v71 c1_i32_260
  let v279 : BitVec 32 := Scalar.addi c0_i32_261 v278
  v279.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_54 : BitVec 32 := 3#32
  let v74 : BitVec 1 := Scalar.cmpi .slt v19 c3_i32_54
  let v287 : BitVec 32 := Scalar.extui v74
  let c0_i32_266 : BitVec 32 := 0#32
  let v288 : BitVec 1 := Scalar.cmpi .ne v287 c0_i32_266
  v288

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2048_i32_265 : BitVec 32 := 2048#32
  let v286 : BitVec 32 := Scalar.muli v2 c2048_i32_265
  let c0_i32_935 : BitVec 32 := 0#32
  ![v286.toNat, 0]
def k0_dev7 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_52 : BitVec 32 := 8#32
  let v72 : BitVec 32 := Scalar.addi v2 c8_i32_52
  let c1_i32_933 : BitVec 32 := 1#32
  let v1053 : BitVec 32 := Scalar.muli v72 c1_i32_933
  let v1054 : BitVec 32 := Scalar.addi c0_i32_934 v1053
  v1054.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_55 : BitVec 32 := 0#32
  let v75 : BitVec 1 := Scalar.cmpi .sgt v19 c0_i32_55
  let v290 : BitVec 32 := Scalar.extui v75
  let c0_i32_268 : BitVec 32 := 0#32
  let v291 : BitVec 1 := Scalar.cmpi .ne v290 c0_i32_268
  v291

def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2048_i32_267 : BitVec 32 := 2048#32
  let v289 : BitVec 32 := Scalar.muli v2 c2048_i32_267
  let c0_i32_935 : BitVec 32 := 0#32
  ![v289.toNat, 0]
def k0_dev8 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_53 : BitVec 32 := 8#32
  let v73 : BitVec 32 := Scalar.subi v2 c8_i32_53
  let c1_i32_933 : BitVec 32 := 1#32
  let v1053 : BitVec 32 := Scalar.muli v73 c1_i32_933
  let v1054 : BitVec 32 := Scalar.addi c0_i32_934 v1053
  v1054.toNat
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2048_i32_269 : BitVec 32 := 2048#32
  let v292 : BitVec 32 := Scalar.muli v2 c2048_i32_269
  let c0_i32_270 : BitVec 32 := 0#32
  ![v292.toNat, 0]
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c0_i32_272 : BitVec 32 := 0#32
  let v295 : BitVec 1 := Scalar.cmpi .sge v294 c0_i32_272
  let v298 : BitVec 32 := Scalar.extui v295
  let c0_i32_274 : BitVec 32 := 0#32
  let v299 : BitVec 1 := Scalar.cmpi .ne v298 c0_i32_274
  v299

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  ![v294.toNat]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c8_i32_273 : BitVec 32 := 8#32
  let v296 : BitVec 32 := Scalar.muli v294 c8_i32_273
  let c8_i32_5 : BitVec 32 := 8#32
  let v20 : BitVec 32 := Scalar.remsi v2 c8_i32_5
  let v297 : BitVec 32 := Scalar.addi v296 v20
  let c2048_i32_933 : BitVec 32 := 2048#32
  let v1053 : BitVec 32 := Scalar.muli v297 c2048_i32_933
  let c0_i32_936 : BitVec 32 := 0#32
  ![v1053.toNat, 0]
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c0_i32_272 : BitVec 32 := 0#32
  let v295 : BitVec 1 := Scalar.cmpi .sge v294 c0_i32_272
  let c3_i32_54 : BitVec 32 := 3#32
  let v74 : BitVec 1 := Scalar.cmpi .slt v19 c3_i32_54
  let v300 : BitVec 1 := Scalar.andi v295 v74
  let v303 : BitVec 32 := Scalar.extui v300
  let c0_i32_277 : BitVec 32 := 0#32
  let v304 : BitVec 1 := Scalar.cmpi .ne v303 c0_i32_277
  v304

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  ![v294.toNat]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c8_i32_273 : BitVec 32 := 8#32
  let v296 : BitVec 32 := Scalar.muli v294 c8_i32_273
  let c8_i32_5 : BitVec 32 := 8#32
  let v20 : BitVec 32 := Scalar.remsi v2 c8_i32_5
  let v297 : BitVec 32 := Scalar.addi v296 v20
  let c2048_i32_276 : BitVec 32 := 2048#32
  let v302 : BitVec 32 := Scalar.muli v297 c2048_i32_276
  let c0_i32_935 : BitVec 32 := 0#32
  ![v302.toNat, 0]
def k0_dev9 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_52 : BitVec 32 := 8#32
  let v72 : BitVec 32 := Scalar.addi v2 c8_i32_52
  let c1_i32_933 : BitVec 32 := 1#32
  let v1053 : BitVec 32 := Scalar.muli v72 c1_i32_933
  let v1054 : BitVec 32 := Scalar.addi c0_i32_934 v1053
  v1054.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c0_i32_272 : BitVec 32 := 0#32
  let v295 : BitVec 1 := Scalar.cmpi .sge v294 c0_i32_272
  let v313 : BitVec 32 := Scalar.extui v295
  let c0_i32_285 : BitVec 32 := 0#32
  let v314 : BitVec 1 := Scalar.cmpi .ne v313 c0_i32_285
  v314

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c4_i32_281 : BitVec 32 := 4#32
  let v309 : BitVec 32 := Scalar.muli v294 c4_i32_281
  let c0_i32_282 : BitVec 32 := 0#32
  let v310 : BitVec 32 := Scalar.addi v309 c0_i32_282
  ![v310.toNat]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c8_i32_278 : BitVec 32 := 8#32
  let v305 : BitVec 32 := Scalar.muli v294 c8_i32_278
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v306 : BitVec 32 := Scalar.addi v305 v107
  let c2048_i32_280 : BitVec 32 := 2048#32
  let v308 : BitVec 32 := Scalar.muli v306 c2048_i32_280
  let c0_i32_935 : BitVec 32 := 0#32
  ![v308.toNat, 0]
def k0_dev10 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_933 : BitVec 32 := 1#32
  let v1053 : BitVec 32 := Scalar.muli v52 c1_i32_933
  let v1054 : BitVec 32 := Scalar.addi c0_i32_934 v1053
  v1054.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c0_i32_272 : BitVec 32 := 0#32
  let v295 : BitVec 1 := Scalar.cmpi .sge v294 c0_i32_272
  let v323 : BitVec 32 := Scalar.extui v295
  let c0_i32_293 : BitVec 32 := 0#32
  let v324 : BitVec 1 := Scalar.cmpi .ne v323 c0_i32_293
  v324

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c4_i32_289 : BitVec 32 := 4#32
  let v319 : BitVec 32 := Scalar.muli v294 c4_i32_289
  let c0_i32_290 : BitVec 32 := 0#32
  let v320 : BitVec 32 := Scalar.addi v319 c0_i32_290
  ![v320.toNat]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c8_i32_286 : BitVec 32 := 8#32
  let v315 : BitVec 32 := Scalar.muli v294 c8_i32_286
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v316 : BitVec 32 := Scalar.addi v315 v191
  let c2048_i32_288 : BitVec 32 := 2048#32
  let v318 : BitVec 32 := Scalar.muli v316 c2048_i32_288
  let c0_i32_935 : BitVec 32 := 0#32
  ![v318.toNat, 0]
def k0_dev11 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_933 : BitVec 32 := 1#32
  let v1053 : BitVec 32 := Scalar.muli v71 c1_i32_933
  let v1054 : BitVec 32 := Scalar.addi c0_i32_934 v1053
  v1054.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c3_i32_295 : BitVec 32 := 3#32
  let v326 : BitVec 1 := Scalar.cmpi .sle v325 c3_i32_295
  let v329 : BitVec 32 := Scalar.extui v326
  let c0_i32_297 : BitVec 32 := 0#32
  let v330 : BitVec 1 := Scalar.cmpi .ne v329 c0_i32_297
  v330

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  ![v325.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c8_i32_296 : BitVec 32 := 8#32
  let v327 : BitVec 32 := Scalar.muli v325 c8_i32_296
  let c8_i32_5 : BitVec 32 := 8#32
  let v20 : BitVec 32 := Scalar.remsi v2 c8_i32_5
  let v328 : BitVec 32 := Scalar.addi v327 v20
  let c2048_i32_933 : BitVec 32 := 2048#32
  let v1053 : BitVec 32 := Scalar.muli v328 c2048_i32_933
  let c0_i32_936 : BitVec 32 := 0#32
  ![v1053.toNat, 0]
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c3_i32_295 : BitVec 32 := 3#32
  let v326 : BitVec 1 := Scalar.cmpi .sle v325 c3_i32_295
  let c0_i32_55 : BitVec 32 := 0#32
  let v75 : BitVec 1 := Scalar.cmpi .sgt v19 c0_i32_55
  let v331 : BitVec 1 := Scalar.andi v326 v75
  let v334 : BitVec 32 := Scalar.extui v331
  let c0_i32_300 : BitVec 32 := 0#32
  let v335 : BitVec 1 := Scalar.cmpi .ne v334 c0_i32_300
  v335

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  ![v325.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c8_i32_296 : BitVec 32 := 8#32
  let v327 : BitVec 32 := Scalar.muli v325 c8_i32_296
  let c8_i32_5 : BitVec 32 := 8#32
  let v20 : BitVec 32 := Scalar.remsi v2 c8_i32_5
  let v328 : BitVec 32 := Scalar.addi v327 v20
  let c2048_i32_299 : BitVec 32 := 2048#32
  let v333 : BitVec 32 := Scalar.muli v328 c2048_i32_299
  let c0_i32_935 : BitVec 32 := 0#32
  ![v333.toNat, 0]
def k0_dev12 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_53 : BitVec 32 := 8#32
  let v73 : BitVec 32 := Scalar.subi v2 c8_i32_53
  let c1_i32_933 : BitVec 32 := 1#32
  let v1053 : BitVec 32 := Scalar.muli v73 c1_i32_933
  let v1054 : BitVec 32 := Scalar.addi c0_i32_934 v1053
  v1054.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c3_i32_295 : BitVec 32 := 3#32
  let v326 : BitVec 1 := Scalar.cmpi .sle v325 c3_i32_295
  let v344 : BitVec 32 := Scalar.extui v326
  let c0_i32_308 : BitVec 32 := 0#32
  let v345 : BitVec 1 := Scalar.cmpi .ne v344 c0_i32_308
  v345

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c4_i32_304 : BitVec 32 := 4#32
  let v340 : BitVec 32 := Scalar.muli v325 c4_i32_304
  let c0_i32_305 : BitVec 32 := 0#32
  let v341 : BitVec 32 := Scalar.addi v340 c0_i32_305
  ![v341.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c8_i32_301 : BitVec 32 := 8#32
  let v336 : BitVec 32 := Scalar.muli v325 c8_i32_301
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v337 : BitVec 32 := Scalar.addi v336 v107
  let c2048_i32_303 : BitVec 32 := 2048#32
  let v339 : BitVec 32 := Scalar.muli v337 c2048_i32_303
  let c0_i32_935 : BitVec 32 := 0#32
  ![v339.toNat, 0]
def k0_dev13 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_933 : BitVec 32 := 1#32
  let v1053 : BitVec 32 := Scalar.muli v52 c1_i32_933
  let v1054 : BitVec 32 := Scalar.addi c0_i32_934 v1053
  v1054.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c3_i32_295 : BitVec 32 := 3#32
  let v326 : BitVec 1 := Scalar.cmpi .sle v325 c3_i32_295
  let v354 : BitVec 32 := Scalar.extui v326
  let c0_i32_316 : BitVec 32 := 0#32
  let v355 : BitVec 1 := Scalar.cmpi .ne v354 c0_i32_316
  v355

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c4_i32_312 : BitVec 32 := 4#32
  let v350 : BitVec 32 := Scalar.muli v325 c4_i32_312
  let c0_i32_313 : BitVec 32 := 0#32
  let v351 : BitVec 32 := Scalar.addi v350 c0_i32_313
  ![v351.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c8_i32_309 : BitVec 32 := 8#32
  let v346 : BitVec 32 := Scalar.muli v325 c8_i32_309
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v347 : BitVec 32 := Scalar.addi v346 v191
  let c2048_i32_311 : BitVec 32 := 2048#32
  let v349 : BitVec 32 := Scalar.muli v347 c2048_i32_311
  let c0_i32_935 : BitVec 32 := 0#32
  ![v349.toNat, 0]
def k0_dev14 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_933 : BitVec 32 := 1#32
  let v1053 : BitVec 32 := Scalar.muli v71 c1_i32_933
  let v1054 : BitVec 32 := Scalar.addi c0_i32_934 v1053
  v1054.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c0_i32_318 : BitVec 32 := 0#32
  let v357 : BitVec 1 := Scalar.cmpi .sge v356 c0_i32_318
  let v360 : BitVec 32 := Scalar.extui v357
  let c0_i32_320 : BitVec 32 := 0#32
  let v361 : BitVec 1 := Scalar.cmpi .ne v360 c0_i32_320
  v361

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  ![v356.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c8_i32_319 : BitVec 32 := 8#32
  let v358 : BitVec 32 := Scalar.muli v356 c8_i32_319
  let c8_i32_5 : BitVec 32 := 8#32
  let v20 : BitVec 32 := Scalar.remsi v2 c8_i32_5
  let v359 : BitVec 32 := Scalar.addi v358 v20
  let c2048_i32_933 : BitVec 32 := 2048#32
  let v1053 : BitVec 32 := Scalar.muli v359 c2048_i32_933
  let c0_i32_936 : BitVec 32 := 0#32
  ![v1053.toNat, 0]
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c0_i32_318 : BitVec 32 := 0#32
  let v357 : BitVec 1 := Scalar.cmpi .sge v356 c0_i32_318
  let c3_i32_54 : BitVec 32 := 3#32
  let v74 : BitVec 1 := Scalar.cmpi .slt v19 c3_i32_54
  let v362 : BitVec 1 := Scalar.andi v357 v74
  let v365 : BitVec 32 := Scalar.extui v362
  let c0_i32_323 : BitVec 32 := 0#32
  let v366 : BitVec 1 := Scalar.cmpi .ne v365 c0_i32_323
  v366

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  ![v356.toNat]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c8_i32_319 : BitVec 32 := 8#32
  let v358 : BitVec 32 := Scalar.muli v356 c8_i32_319
  let c8_i32_5 : BitVec 32 := 8#32
  let v20 : BitVec 32 := Scalar.remsi v2 c8_i32_5
  let v359 : BitVec 32 := Scalar.addi v358 v20
  let c2048_i32_322 : BitVec 32 := 2048#32
  let v364 : BitVec 32 := Scalar.muli v359 c2048_i32_322
  let c0_i32_935 : BitVec 32 := 0#32
  ![v364.toNat, 0]
def k0_dev15 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_52 : BitVec 32 := 8#32
  let v72 : BitVec 32 := Scalar.addi v2 c8_i32_52
  let c1_i32_933 : BitVec 32 := 1#32
  let v1053 : BitVec 32 := Scalar.muli v72 c1_i32_933
  let v1054 : BitVec 32 := Scalar.addi c0_i32_934 v1053
  v1054.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c0_i32_318 : BitVec 32 := 0#32
  let v357 : BitVec 1 := Scalar.cmpi .sge v356 c0_i32_318
  let v375 : BitVec 32 := Scalar.extui v357
  let c0_i32_331 : BitVec 32 := 0#32
  let v376 : BitVec 1 := Scalar.cmpi .ne v375 c0_i32_331
  v376

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c4_i32_327 : BitVec 32 := 4#32
  let v371 : BitVec 32 := Scalar.muli v356 c4_i32_327
  let c0_i32_328 : BitVec 32 := 0#32
  let v372 : BitVec 32 := Scalar.addi v371 c0_i32_328
  ![v372.toNat]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c8_i32_324 : BitVec 32 := 8#32
  let v367 : BitVec 32 := Scalar.muli v356 c8_i32_324
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v368 : BitVec 32 := Scalar.addi v367 v107
  let c2048_i32_326 : BitVec 32 := 2048#32
  let v370 : BitVec 32 := Scalar.muli v368 c2048_i32_326
  let c0_i32_935 : BitVec 32 := 0#32
  ![v370.toNat, 0]
def k0_dev16 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_933 : BitVec 32 := 1#32
  let v1053 : BitVec 32 := Scalar.muli v52 c1_i32_933
  let v1054 : BitVec 32 := Scalar.addi c0_i32_934 v1053
  v1054.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c0_i32_318 : BitVec 32 := 0#32
  let v357 : BitVec 1 := Scalar.cmpi .sge v356 c0_i32_318
  let v385 : BitVec 32 := Scalar.extui v357
  let c0_i32_339 : BitVec 32 := 0#32
  let v386 : BitVec 1 := Scalar.cmpi .ne v385 c0_i32_339
  v386

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c4_i32_335 : BitVec 32 := 4#32
  let v381 : BitVec 32 := Scalar.muli v356 c4_i32_335
  let c0_i32_336 : BitVec 32 := 0#32
  let v382 : BitVec 32 := Scalar.addi v381 c0_i32_336
  ![v382.toNat]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c8_i32_332 : BitVec 32 := 8#32
  let v377 : BitVec 32 := Scalar.muli v356 c8_i32_332
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v378 : BitVec 32 := Scalar.addi v377 v191
  let c2048_i32_334 : BitVec 32 := 2048#32
  let v380 : BitVec 32 := Scalar.muli v378 c2048_i32_334
  let c0_i32_935 : BitVec 32 := 0#32
  ![v380.toNat, 0]
def k0_dev17 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_933 : BitVec 32 := 1#32
  let v1053 : BitVec 32 := Scalar.muli v71 c1_i32_933
  let v1054 : BitVec 32 := Scalar.addi c0_i32_934 v1053
  v1054.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c3_i32_341 : BitVec 32 := 3#32
  let v388 : BitVec 1 := Scalar.cmpi .sle v387 c3_i32_341
  let v391 : BitVec 32 := Scalar.extui v388
  let c0_i32_343 : BitVec 32 := 0#32
  let v392 : BitVec 1 := Scalar.cmpi .ne v391 c0_i32_343
  v392

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  ![v387.toNat]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c8_i32_342 : BitVec 32 := 8#32
  let v389 : BitVec 32 := Scalar.muli v387 c8_i32_342
  let c8_i32_5 : BitVec 32 := 8#32
  let v20 : BitVec 32 := Scalar.remsi v2 c8_i32_5
  let v390 : BitVec 32 := Scalar.addi v389 v20
  let c2048_i32_933 : BitVec 32 := 2048#32
  let v1053 : BitVec 32 := Scalar.muli v390 c2048_i32_933
  let c0_i32_936 : BitVec 32 := 0#32
  ![v1053.toNat, 0]
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c3_i32_341 : BitVec 32 := 3#32
  let v388 : BitVec 1 := Scalar.cmpi .sle v387 c3_i32_341
  let c0_i32_55 : BitVec 32 := 0#32
  let v75 : BitVec 1 := Scalar.cmpi .sgt v19 c0_i32_55
  let v393 : BitVec 1 := Scalar.andi v388 v75
  let v396 : BitVec 32 := Scalar.extui v393
  let c0_i32_346 : BitVec 32 := 0#32
  let v397 : BitVec 1 := Scalar.cmpi .ne v396 c0_i32_346
  v397

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  ![v387.toNat]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c8_i32_342 : BitVec 32 := 8#32
  let v389 : BitVec 32 := Scalar.muli v387 c8_i32_342
  let c8_i32_5 : BitVec 32 := 8#32
  let v20 : BitVec 32 := Scalar.remsi v2 c8_i32_5
  let v390 : BitVec 32 := Scalar.addi v389 v20
  let c2048_i32_345 : BitVec 32 := 2048#32
  let v395 : BitVec 32 := Scalar.muli v390 c2048_i32_345
  let c0_i32_935 : BitVec 32 := 0#32
  ![v395.toNat, 0]
def k0_dev18 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_53 : BitVec 32 := 8#32
  let v73 : BitVec 32 := Scalar.subi v2 c8_i32_53
  let c1_i32_933 : BitVec 32 := 1#32
  let v1053 : BitVec 32 := Scalar.muli v73 c1_i32_933
  let v1054 : BitVec 32 := Scalar.addi c0_i32_934 v1053
  v1054.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c3_i32_341 : BitVec 32 := 3#32
  let v388 : BitVec 1 := Scalar.cmpi .sle v387 c3_i32_341
  let v406 : BitVec 32 := Scalar.extui v388
  let c0_i32_354 : BitVec 32 := 0#32
  let v407 : BitVec 1 := Scalar.cmpi .ne v406 c0_i32_354
  v407

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c4_i32_350 : BitVec 32 := 4#32
  let v402 : BitVec 32 := Scalar.muli v387 c4_i32_350
  let c0_i32_351 : BitVec 32 := 0#32
  let v403 : BitVec 32 := Scalar.addi v402 c0_i32_351
  ![v403.toNat]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c8_i32_347 : BitVec 32 := 8#32
  let v398 : BitVec 32 := Scalar.muli v387 c8_i32_347
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v399 : BitVec 32 := Scalar.addi v398 v107
  let c2048_i32_349 : BitVec 32 := 2048#32
  let v401 : BitVec 32 := Scalar.muli v399 c2048_i32_349
  let c0_i32_935 : BitVec 32 := 0#32
  ![v401.toNat, 0]
def k0_dev19 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_933 : BitVec 32 := 1#32
  let v1053 : BitVec 32 := Scalar.muli v52 c1_i32_933
  let v1054 : BitVec 32 := Scalar.addi c0_i32_934 v1053
  v1054.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c3_i32_341 : BitVec 32 := 3#32
  let v388 : BitVec 1 := Scalar.cmpi .sle v387 c3_i32_341
  let v416 : BitVec 32 := Scalar.extui v388
  let c0_i32_362 : BitVec 32 := 0#32
  let v417 : BitVec 1 := Scalar.cmpi .ne v416 c0_i32_362
  v417

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c4_i32_358 : BitVec 32 := 4#32
  let v412 : BitVec 32 := Scalar.muli v387 c4_i32_358
  let c0_i32_359 : BitVec 32 := 0#32
  let v413 : BitVec 32 := Scalar.addi v412 c0_i32_359
  ![v413.toNat]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c8_i32_355 : BitVec 32 := 8#32
  let v408 : BitVec 32 := Scalar.muli v387 c8_i32_355
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v409 : BitVec 32 := Scalar.addi v408 v191
  let c2048_i32_357 : BitVec 32 := 2048#32
  let v411 : BitVec 32 := Scalar.muli v409 c2048_i32_357
  let c0_i32_935 : BitVec 32 := 0#32
  ![v411.toNat, 0]
def k0_dev20 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_933 : BitVec 32 := 1#32
  let v1053 : BitVec 32 := Scalar.muli v71 c1_i32_933
  let v1054 : BitVec 32 := Scalar.addi c0_i32_934 v1053
  v1054.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c0_i32_364 : BitVec 32 := 0#32
  let v419 : BitVec 1 := Scalar.cmpi .sge v418 c0_i32_364
  let v422 : BitVec 32 := Scalar.extui v419
  let c0_i32_366 : BitVec 32 := 0#32
  let v423 : BitVec 1 := Scalar.cmpi .ne v422 c0_i32_366
  v423

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  ![v418.toNat]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c8_i32_365 : BitVec 32 := 8#32
  let v420 : BitVec 32 := Scalar.muli v418 c8_i32_365
  let c8_i32_5 : BitVec 32 := 8#32
  let v20 : BitVec 32 := Scalar.remsi v2 c8_i32_5
  let v421 : BitVec 32 := Scalar.addi v420 v20
  let c2048_i32_933 : BitVec 32 := 2048#32
  let v1053 : BitVec 32 := Scalar.muli v421 c2048_i32_933
  let c0_i32_936 : BitVec 32 := 0#32
  ![v1053.toNat, 0]
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c0_i32_364 : BitVec 32 := 0#32
  let v419 : BitVec 1 := Scalar.cmpi .sge v418 c0_i32_364
  let c3_i32_54 : BitVec 32 := 3#32
  let v74 : BitVec 1 := Scalar.cmpi .slt v19 c3_i32_54
  let v424 : BitVec 1 := Scalar.andi v419 v74
  let v427 : BitVec 32 := Scalar.extui v424
  let c0_i32_369 : BitVec 32 := 0#32
  let v428 : BitVec 1 := Scalar.cmpi .ne v427 c0_i32_369
  v428

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  ![v418.toNat]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c8_i32_365 : BitVec 32 := 8#32
  let v420 : BitVec 32 := Scalar.muli v418 c8_i32_365
  let c8_i32_5 : BitVec 32 := 8#32
  let v20 : BitVec 32 := Scalar.remsi v2 c8_i32_5
  let v421 : BitVec 32 := Scalar.addi v420 v20
  let c2048_i32_368 : BitVec 32 := 2048#32
  let v426 : BitVec 32 := Scalar.muli v421 c2048_i32_368
  let c0_i32_935 : BitVec 32 := 0#32
  ![v426.toNat, 0]
def k0_dev21 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_52 : BitVec 32 := 8#32
  let v72 : BitVec 32 := Scalar.addi v2 c8_i32_52
  let c1_i32_933 : BitVec 32 := 1#32
  let v1053 : BitVec 32 := Scalar.muli v72 c1_i32_933
  let v1054 : BitVec 32 := Scalar.addi c0_i32_934 v1053
  v1054.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c0_i32_364 : BitVec 32 := 0#32
  let v419 : BitVec 1 := Scalar.cmpi .sge v418 c0_i32_364
  let v437 : BitVec 32 := Scalar.extui v419
  let c0_i32_377 : BitVec 32 := 0#32
  let v438 : BitVec 1 := Scalar.cmpi .ne v437 c0_i32_377
  v438

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c4_i32_373 : BitVec 32 := 4#32
  let v433 : BitVec 32 := Scalar.muli v418 c4_i32_373
  let c0_i32_374 : BitVec 32 := 0#32
  let v434 : BitVec 32 := Scalar.addi v433 c0_i32_374
  ![v434.toNat]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c8_i32_370 : BitVec 32 := 8#32
  let v429 : BitVec 32 := Scalar.muli v418 c8_i32_370
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v430 : BitVec 32 := Scalar.addi v429 v107
  let c2048_i32_372 : BitVec 32 := 2048#32
  let v432 : BitVec 32 := Scalar.muli v430 c2048_i32_372
  let c0_i32_935 : BitVec 32 := 0#32
  ![v432.toNat, 0]
def k0_dev22 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_933 : BitVec 32 := 1#32
  let v1053 : BitVec 32 := Scalar.muli v52 c1_i32_933
  let v1054 : BitVec 32 := Scalar.addi c0_i32_934 v1053
  v1054.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c0_i32_364 : BitVec 32 := 0#32
  let v419 : BitVec 1 := Scalar.cmpi .sge v418 c0_i32_364
  let v447 : BitVec 32 := Scalar.extui v419
  let c0_i32_385 : BitVec 32 := 0#32
  let v448 : BitVec 1 := Scalar.cmpi .ne v447 c0_i32_385
  v448

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c4_i32_381 : BitVec 32 := 4#32
  let v443 : BitVec 32 := Scalar.muli v418 c4_i32_381
  let c0_i32_382 : BitVec 32 := 0#32
  let v444 : BitVec 32 := Scalar.addi v443 c0_i32_382
  ![v444.toNat]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c8_i32_378 : BitVec 32 := 8#32
  let v439 : BitVec 32 := Scalar.muli v418 c8_i32_378
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v440 : BitVec 32 := Scalar.addi v439 v191
  let c2048_i32_380 : BitVec 32 := 2048#32
  let v442 : BitVec 32 := Scalar.muli v440 c2048_i32_380
  let c0_i32_935 : BitVec 32 := 0#32
  ![v442.toNat, 0]
def k0_dev23 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_933 : BitVec 32 := 1#32
  let v1053 : BitVec 32 := Scalar.muli v71 c1_i32_933
  let v1054 : BitVec 32 := Scalar.addi c0_i32_934 v1053
  v1054.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c3_i32_387 : BitVec 32 := 3#32
  let v450 : BitVec 1 := Scalar.cmpi .sle v449 c3_i32_387
  let v453 : BitVec 32 := Scalar.extui v450
  let c0_i32_389 : BitVec 32 := 0#32
  let v454 : BitVec 1 := Scalar.cmpi .ne v453 c0_i32_389
  v454

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  ![v449.toNat]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c8_i32_388 : BitVec 32 := 8#32
  let v451 : BitVec 32 := Scalar.muli v449 c8_i32_388
  let c8_i32_5 : BitVec 32 := 8#32
  let v20 : BitVec 32 := Scalar.remsi v2 c8_i32_5
  let v452 : BitVec 32 := Scalar.addi v451 v20
  let c2048_i32_933 : BitVec 32 := 2048#32
  let v1053 : BitVec 32 := Scalar.muli v452 c2048_i32_933
  let c0_i32_936 : BitVec 32 := 0#32
  ![v1053.toNat, 0]
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c3_i32_387 : BitVec 32 := 3#32
  let v450 : BitVec 1 := Scalar.cmpi .sle v449 c3_i32_387
  let c0_i32_55 : BitVec 32 := 0#32
  let v75 : BitVec 1 := Scalar.cmpi .sgt v19 c0_i32_55
  let v455 : BitVec 1 := Scalar.andi v450 v75
  let v458 : BitVec 32 := Scalar.extui v455
  let c0_i32_392 : BitVec 32 := 0#32
  let v459 : BitVec 1 := Scalar.cmpi .ne v458 c0_i32_392
  v459

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  ![v449.toNat]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c8_i32_388 : BitVec 32 := 8#32
  let v451 : BitVec 32 := Scalar.muli v449 c8_i32_388
  let c8_i32_5 : BitVec 32 := 8#32
  let v20 : BitVec 32 := Scalar.remsi v2 c8_i32_5
  let v452 : BitVec 32 := Scalar.addi v451 v20
  let c2048_i32_391 : BitVec 32 := 2048#32
  let v457 : BitVec 32 := Scalar.muli v452 c2048_i32_391
  let c0_i32_935 : BitVec 32 := 0#32
  ![v457.toNat, 0]
def k0_dev24 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_53 : BitVec 32 := 8#32
  let v73 : BitVec 32 := Scalar.subi v2 c8_i32_53
  let c1_i32_933 : BitVec 32 := 1#32
  let v1053 : BitVec 32 := Scalar.muli v73 c1_i32_933
  let v1054 : BitVec 32 := Scalar.addi c0_i32_934 v1053
  v1054.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c3_i32_387 : BitVec 32 := 3#32
  let v450 : BitVec 1 := Scalar.cmpi .sle v449 c3_i32_387
  let v468 : BitVec 32 := Scalar.extui v450
  let c0_i32_400 : BitVec 32 := 0#32
  let v469 : BitVec 1 := Scalar.cmpi .ne v468 c0_i32_400
  v469

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c4_i32_396 : BitVec 32 := 4#32
  let v464 : BitVec 32 := Scalar.muli v449 c4_i32_396
  let c0_i32_397 : BitVec 32 := 0#32
  let v465 : BitVec 32 := Scalar.addi v464 c0_i32_397
  ![v465.toNat]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c8_i32_393 : BitVec 32 := 8#32
  let v460 : BitVec 32 := Scalar.muli v449 c8_i32_393
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v461 : BitVec 32 := Scalar.addi v460 v107
  let c2048_i32_395 : BitVec 32 := 2048#32
  let v463 : BitVec 32 := Scalar.muli v461 c2048_i32_395
  let c0_i32_935 : BitVec 32 := 0#32
  ![v463.toNat, 0]
def k0_dev25 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_933 : BitVec 32 := 1#32
  let v1053 : BitVec 32 := Scalar.muli v52 c1_i32_933
  let v1054 : BitVec 32 := Scalar.addi c0_i32_934 v1053
  v1054.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c3_i32_387 : BitVec 32 := 3#32
  let v450 : BitVec 1 := Scalar.cmpi .sle v449 c3_i32_387
  let v478 : BitVec 32 := Scalar.extui v450
  let c0_i32_408 : BitVec 32 := 0#32
  let v479 : BitVec 1 := Scalar.cmpi .ne v478 c0_i32_408
  v479

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c4_i32_404 : BitVec 32 := 4#32
  let v474 : BitVec 32 := Scalar.muli v449 c4_i32_404
  let c0_i32_405 : BitVec 32 := 0#32
  let v475 : BitVec 32 := Scalar.addi v474 c0_i32_405
  ![v475.toNat]
def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c8_i32_401 : BitVec 32 := 8#32
  let v470 : BitVec 32 := Scalar.muli v449 c8_i32_401
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v471 : BitVec 32 := Scalar.addi v470 v191
  let c2048_i32_403 : BitVec 32 := 2048#32
  let v473 : BitVec 32 := Scalar.muli v471 c2048_i32_403
  let c0_i32_935 : BitVec 32 := 0#32
  ![v473.toNat, 0]
def k0_dev26 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_933 : BitVec 32 := 1#32
  let v1053 : BitVec 32 := Scalar.muli v71 c1_i32_933
  let v1054 : BitVec 32 := Scalar.addi c0_i32_934 v1053
  v1054.toNat
def k0_off57 (d0 : Dev nD) (c0_i32_409 : BitVec 32) (c1_i32_87 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let v108 : BitVec 32 := Scalar.subi v34 c1_i32_87
  let c8_i32_88 : BitVec 32 := 8#32
  let v109 : BitVec 32 := Scalar.addi v108 c8_i32_88
  let c8_i32_89 : BitVec 32 := 8#32
  let v110 : BitVec 32 := Scalar.remsi v109 c8_i32_89
  let c7_i32_103 : BitVec 32 := 7#32
  let v123 : BitVec 1 := Scalar.cmpi .eq v110 c7_i32_103
  let c3_i32_104 : BitVec 32 := 3#32
  let c6_i32_101 : BitVec 32 := 6#32
  let v121 : BitVec 1 := Scalar.cmpi .eq v110 c6_i32_101
  let c4_i32_102 : BitVec 32 := 4#32
  let c5_i32_99 : BitVec 32 := 5#32
  let v119 : BitVec 1 := Scalar.cmpi .eq v110 c5_i32_99
  let c7_i32_100 : BitVec 32 := 7#32
  let c4_i32_97 : BitVec 32 := 4#32
  let v117 : BitVec 1 := Scalar.cmpi .eq v110 c4_i32_97
  let c6_i32_98 : BitVec 32 := 6#32
  let c3_i32_95 : BitVec 32 := 3#32
  let v115 : BitVec 1 := Scalar.cmpi .eq v110 c3_i32_95
  let c5_i32_96 : BitVec 32 := 5#32
  let c2_i32_93 : BitVec 32 := 2#32
  let v113 : BitVec 1 := Scalar.cmpi .eq v110 c2_i32_93
  let c2_i32_94 : BitVec 32 := 2#32
  let c1_i32_90 : BitVec 32 := 1#32
  let v111 : BitVec 1 := Scalar.cmpi .eq v110 c1_i32_90
  let c1_i32_92 : BitVec 32 := 1#32
  let c0_i32_91 : BitVec 32 := 0#32
  let v112 : BitVec 32 := Scalar.select v111 c1_i32_92 c0_i32_91
  let v114 : BitVec 32 := Scalar.select v113 c2_i32_94 v112
  let v116 : BitVec 32 := Scalar.select v115 c5_i32_96 v114
  let v118 : BitVec 32 := Scalar.select v117 c6_i32_98 v116
  let v120 : BitVec 32 := Scalar.select v119 c7_i32_100 v118
  let v122 : BitVec 32 := Scalar.select v121 c4_i32_102 v120
  let v124 : BitVec 32 := Scalar.select v123 c3_i32_104 v122
  let v480 : BitVec 32 := Scalar.addi c0_i32_409 v124
  let c2048_i32_410 : BitVec 32 := 2048#32
  let v481 : BitVec 32 := Scalar.muli v480 c2048_i32_410
  let c0_i32_415 : BitVec 32 := 0#32
  ![v481.toNat, 0]
def k0_off57_at (r : Fin 14) : BitVec 32 × BitVec 32 :=
  if r.val < 7 then
    if r.val < 3 then
      if r.val < 1 then
        (0#32, 1#32)
      else
        if r.val < 2 then
          (8#32, 1#32)
        else
          (16#32, 1#32)
    else
      if r.val < 5 then
        if r.val < 4 then
          (24#32, 1#32)
        else
          (0#32, 2#32)
      else
        if r.val < 6 then
          (8#32, 2#32)
        else
          (16#32, 2#32)
  else
    if r.val < 10 then
      if r.val < 8 then
        (24#32, 2#32)
      else
        if r.val < 9 then
          (0#32, 3#32)
        else
          (8#32, 3#32)
    else
      if r.val < 12 then
        if r.val < 11 then
          (0#32, 4#32)
        else
          (8#32, 4#32)
      else
        if r.val < 13 then
          (16#32, 3#32)
        else
          (24#32, 3#32)
def k0_dev27 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_422 : BitVec 32 := 1#32
  let v491 : BitVec 32 := Scalar.muli v52 c1_i32_422
  let v492 : BitVec 32 := Scalar.addi c0_i32_423 v491
  v492.toNat
def k0_off58 (d0 : Dev nD) (c0_i32_426 : BitVec 32) (c1_i32_176 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let v192 : BitVec 32 := Scalar.addi v34 c1_i32_176
  let c8_i32_177 : BitVec 32 := 8#32
  let v193 : BitVec 32 := Scalar.remsi v192 c8_i32_177
  let c7_i32_191 : BitVec 32 := 7#32
  let v206 : BitVec 1 := Scalar.cmpi .eq v193 c7_i32_191
  let c3_i32_192 : BitVec 32 := 3#32
  let c6_i32_189 : BitVec 32 := 6#32
  let v204 : BitVec 1 := Scalar.cmpi .eq v193 c6_i32_189
  let c4_i32_190 : BitVec 32 := 4#32
  let c5_i32_187 : BitVec 32 := 5#32
  let v202 : BitVec 1 := Scalar.cmpi .eq v193 c5_i32_187
  let c7_i32_188 : BitVec 32 := 7#32
  let c4_i32_185 : BitVec 32 := 4#32
  let v200 : BitVec 1 := Scalar.cmpi .eq v193 c4_i32_185
  let c6_i32_186 : BitVec 32 := 6#32
  let c3_i32_183 : BitVec 32 := 3#32
  let v198 : BitVec 1 := Scalar.cmpi .eq v193 c3_i32_183
  let c5_i32_184 : BitVec 32 := 5#32
  let c2_i32_181 : BitVec 32 := 2#32
  let v196 : BitVec 1 := Scalar.cmpi .eq v193 c2_i32_181
  let c2_i32_182 : BitVec 32 := 2#32
  let c1_i32_178 : BitVec 32 := 1#32
  let v194 : BitVec 1 := Scalar.cmpi .eq v193 c1_i32_178
  let c1_i32_180 : BitVec 32 := 1#32
  let c0_i32_179 : BitVec 32 := 0#32
  let v195 : BitVec 32 := Scalar.select v194 c1_i32_180 c0_i32_179
  let v197 : BitVec 32 := Scalar.select v196 c2_i32_182 v195
  let v199 : BitVec 32 := Scalar.select v198 c5_i32_184 v197
  let v201 : BitVec 32 := Scalar.select v200 c6_i32_186 v199
  let v203 : BitVec 32 := Scalar.select v202 c7_i32_188 v201
  let v205 : BitVec 32 := Scalar.select v204 c4_i32_190 v203
  let v207 : BitVec 32 := Scalar.select v206 c3_i32_192 v205
  let v499 : BitVec 32 := Scalar.addi c0_i32_426 v207
  let c2048_i32_427 : BitVec 32 := 2048#32
  let v500 : BitVec 32 := Scalar.muli v499 c2048_i32_427
  let c0_i32_432 : BitVec 32 := 0#32
  ![v500.toNat, 0]
def k0_off58_at (r : Fin 14) : BitVec 32 × BitVec 32 :=
  if r.val < 7 then
    if r.val < 3 then
      if r.val < 1 then
        (0#32, 1#32)
      else
        if r.val < 2 then
          (8#32, 1#32)
        else
          (16#32, 1#32)
    else
      if r.val < 5 then
        if r.val < 4 then
          (24#32, 1#32)
        else
          (0#32, 2#32)
      else
        if r.val < 6 then
          (8#32, 2#32)
        else
          (16#32, 2#32)
  else
    if r.val < 10 then
      if r.val < 8 then
        (24#32, 2#32)
      else
        if r.val < 9 then
          (16#32, 3#32)
        else
          (24#32, 3#32)
    else
      if r.val < 12 then
        if r.val < 11 then
          (0#32, 3#32)
        else
          (8#32, 3#32)
      else
        if r.val < 13 then
          (16#32, 4#32)
        else
          (24#32, 4#32)
def k0_dev28 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_439 : BitVec 32 := 1#32
  let v510 : BitVec 32 := Scalar.muli v71 c1_i32_439
  let v511 : BitVec 32 := Scalar.addi c0_i32_440 v510
  v511.toNat
def k0_dev29 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_456 : BitVec 32 := 1#32
  let v529 : BitVec 32 := Scalar.muli v52 c1_i32_456
  let v530 : BitVec 32 := Scalar.addi c0_i32_457 v529
  v530.toNat
def k0_dev30 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_473 : BitVec 32 := 1#32
  let v548 : BitVec 32 := Scalar.muli v71 c1_i32_473
  let v549 : BitVec 32 := Scalar.addi c0_i32_474 v548
  v549.toNat
def k0_dev31 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_488 : BitVec 32 := 1#32
  let v567 : BitVec 32 := Scalar.muli v52 c1_i32_488
  let v568 : BitVec 32 := Scalar.addi c0_i32_489 v567
  v568.toNat
def k0_dev32 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_505 : BitVec 32 := 1#32
  let v586 : BitVec 32 := Scalar.muli v71 c1_i32_505
  let v587 : BitVec 32 := Scalar.addi c0_i32_506 v586
  v587.toNat
def k0_dev33 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_519 : BitVec 32 := 1#32
  let v605 : BitVec 32 := Scalar.muli v52 c1_i32_519
  let v606 : BitVec 32 := Scalar.addi c0_i32_520 v605
  v606.toNat
def k0_dev34 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_536 : BitVec 32 := 1#32
  let v624 : BitVec 32 := Scalar.muli v71 c1_i32_536
  let v625 : BitVec 32 := Scalar.addi c0_i32_537 v624
  v625.toNat
def k0_dev35 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_553 : BitVec 32 := 1#32
  let v643 : BitVec 32 := Scalar.muli v52 c1_i32_553
  let v644 : BitVec 32 := Scalar.addi c0_i32_554 v643
  v644.toNat
def k0_dev36 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_570 : BitVec 32 := 1#32
  let v662 : BitVec 32 := Scalar.muli v71 c1_i32_570
  let v663 : BitVec 32 := Scalar.addi c0_i32_571 v662
  v663.toNat
def k0_dev37 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_587 : BitVec 32 := 1#32
  let v681 : BitVec 32 := Scalar.muli v52 c1_i32_587
  let v682 : BitVec 32 := Scalar.addi c0_i32_588 v681
  v682.toNat
def k0_dev38 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_604 : BitVec 32 := 1#32
  let v700 : BitVec 32 := Scalar.muli v71 c1_i32_604
  let v701 : BitVec 32 := Scalar.addi c0_i32_605 v700
  v701.toNat
def k0_dev39 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_620 : BitVec 32 := 1#32
  let v719 : BitVec 32 := Scalar.muli v52 c1_i32_620
  let v720 : BitVec 32 := Scalar.addi c0_i32_621 v719
  v720.toNat
def k0_dev40 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_637 : BitVec 32 := 1#32
  let v738 : BitVec 32 := Scalar.muli v71 c1_i32_637
  let v739 : BitVec 32 := Scalar.addi c0_i32_638 v738
  v739.toNat
def k0_dev41 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_653 : BitVec 32 := 1#32
  let v757 : BitVec 32 := Scalar.muli v52 c1_i32_653
  let v758 : BitVec 32 := Scalar.addi c0_i32_654 v757
  v758.toNat
def k0_dev42 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_670 : BitVec 32 := 1#32
  let v776 : BitVec 32 := Scalar.muli v71 c1_i32_670
  let v777 : BitVec 32 := Scalar.addi c0_i32_671 v776
  v777.toNat
def k0_dev43 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_687 : BitVec 32 := 1#32
  let v795 : BitVec 32 := Scalar.muli v52 c1_i32_687
  let v796 : BitVec 32 := Scalar.addi c0_i32_688 v795
  v796.toNat
def k0_dev44 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v35 : BitVec 32 := Scalar.muli v19 c8_i32_15
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_16 : BitVec 32 := 1#32
  let v36 : BitVec 32 := Scalar.addi v34 c1_i32_16
  let c8_i32_17 : BitVec 32 := 8#32
  let v37 : BitVec 32 := Scalar.remsi v36 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_20 : BitVec 32 := 1#32
  let c0_i32_19 : BitVec 32 := 0#32
  let v39 : BitVec 32 := Scalar.select v38 c1_i32_20 c0_i32_19
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v35 v51
  let c1_i32_704 : BitVec 32 := 1#32
  let v814 : BitVec 32 := Scalar.muli v52 c1_i32_704
  let v815 : BitVec 32 := Scalar.addi c0_i32_705 v814
  v815.toNat
def k0_dev45 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_720 : BitVec 32 := 1#32
  let v833 : BitVec 32 := Scalar.muli v71 c1_i32_720
  let v834 : BitVec 32 := Scalar.addi c0_i32_721 v833
  v834.toNat
def k0_dev46 (d0 : Dev nD) : Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v53 : BitVec 32 := Scalar.muli v19 c8_i32_33
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_34 : BitVec 32 := 8#32
  let v54 : BitVec 32 := Scalar.addi v34 c8_i32_34
  let c1_i32_35 : BitVec 32 := 1#32
  let v55 : BitVec 32 := Scalar.subi v54 c1_i32_35
  let c8_i32_36 : BitVec 32 := 8#32
  let v56 : BitVec 32 := Scalar.remsi v55 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_39 : BitVec 32 := 1#32
  let c0_i32_38 : BitVec 32 := 0#32
  let v58 : BitVec 32 := Scalar.select v57 c1_i32_39 c0_i32_38
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v53 v70
  let c1_i32_736 : BitVec 32 := 1#32
  let v852 : BitVec 32 := Scalar.muli v71 c1_i32_736
  let v853 : BitVec 32 := Scalar.addi c0_i32_737 v852
  v853.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_54 : BitVec 32 := 3#32
  let v74 : BitVec 1 := Scalar.cmpi .slt v19 c3_i32_54
  let v932 : BitVec 32 := Scalar.extui v74
  let c0_i32_812 : BitVec 32 := 0#32
  let v933 : BitVec 1 := Scalar.cmpi .ne v932 c0_i32_812
  v933

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2048_i32_265 : BitVec 32 := 2048#32
  let v286 : BitVec 32 := Scalar.muli v2 c2048_i32_265
  let c0_i32_936 : BitVec 32 := 0#32
  ![v286.toNat, 0]
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_55 : BitVec 32 := 0#32
  let v75 : BitVec 1 := Scalar.cmpi .sgt v19 c0_i32_55
  let v934 : BitVec 32 := Scalar.extui v75
  let c0_i32_813 : BitVec 32 := 0#32
  let v935 : BitVec 1 := Scalar.cmpi .ne v934 c0_i32_813
  v935

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2048_i32_267 : BitVec 32 := 2048#32
  let v289 : BitVec 32 := Scalar.muli v2 c2048_i32_267
  let c0_i32_936 : BitVec 32 := 0#32
  ![v289.toNat, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c0_i32_272 : BitVec 32 := 0#32
  let v295 : BitVec 1 := Scalar.cmpi .sge v294 c0_i32_272
  let c3_i32_54 : BitVec 32 := 3#32
  let v74 : BitVec 1 := Scalar.cmpi .slt v19 c3_i32_54
  let v300 : BitVec 1 := Scalar.andi v295 v74
  let v936 : BitVec 32 := Scalar.extui v300
  let c0_i32_814 : BitVec 32 := 0#32
  let v937 : BitVec 1 := Scalar.cmpi .ne v936 c0_i32_814
  v937

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  ![v294.toNat]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c8_i32_273 : BitVec 32 := 8#32
  let v296 : BitVec 32 := Scalar.muli v294 c8_i32_273
  let c8_i32_5 : BitVec 32 := 8#32
  let v20 : BitVec 32 := Scalar.remsi v2 c8_i32_5
  let v297 : BitVec 32 := Scalar.addi v296 v20
  let c2048_i32_275 : BitVec 32 := 2048#32
  let v301 : BitVec 32 := Scalar.muli v297 c2048_i32_275
  let c0_i32_934 : BitVec 32 := 0#32
  ![v301.toNat, 0]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c0_i32_272 : BitVec 32 := 0#32
  let v295 : BitVec 1 := Scalar.cmpi .sge v294 c0_i32_272
  let v938 : BitVec 32 := Scalar.extui v295
  let c0_i32_815 : BitVec 32 := 0#32
  let v939 : BitVec 1 := Scalar.cmpi .ne v938 c0_i32_815
  v939

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c4_i32_281 : BitVec 32 := 4#32
  let v309 : BitVec 32 := Scalar.muli v294 c4_i32_281
  let c0_i32_282 : BitVec 32 := 0#32
  let v310 : BitVec 32 := Scalar.addi v309 c0_i32_282
  ![v310.toNat]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c8_i32_278 : BitVec 32 := 8#32
  let v305 : BitVec 32 := Scalar.muli v294 c8_i32_278
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v306 : BitVec 32 := Scalar.addi v305 v107
  let c2048_i32_279 : BitVec 32 := 2048#32
  let v307 : BitVec 32 := Scalar.muli v306 c2048_i32_279
  let c0_i32_934 : BitVec 32 := 0#32
  ![v307.toNat, 0]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c0_i32_272 : BitVec 32 := 0#32
  let v295 : BitVec 1 := Scalar.cmpi .sge v294 c0_i32_272
  let v940 : BitVec 32 := Scalar.extui v295
  let c0_i32_816 : BitVec 32 := 0#32
  let v941 : BitVec 1 := Scalar.cmpi .ne v940 c0_i32_816
  v941

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c4_i32_289 : BitVec 32 := 4#32
  let v319 : BitVec 32 := Scalar.muli v294 c4_i32_289
  let c0_i32_290 : BitVec 32 := 0#32
  let v320 : BitVec 32 := Scalar.addi v319 c0_i32_290
  ![v320.toNat]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_271 : BitVec 32 := 1#32
  let v294 : BitVec 32 := Scalar.subi v19 c1_i32_271
  let c8_i32_286 : BitVec 32 := 8#32
  let v315 : BitVec 32 := Scalar.muli v294 c8_i32_286
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v316 : BitVec 32 := Scalar.addi v315 v191
  let c2048_i32_287 : BitVec 32 := 2048#32
  let v317 : BitVec 32 := Scalar.muli v316 c2048_i32_287
  let c0_i32_934 : BitVec 32 := 0#32
  ![v317.toNat, 0]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c3_i32_295 : BitVec 32 := 3#32
  let v326 : BitVec 1 := Scalar.cmpi .sle v325 c3_i32_295
  let c0_i32_55 : BitVec 32 := 0#32
  let v75 : BitVec 1 := Scalar.cmpi .sgt v19 c0_i32_55
  let v331 : BitVec 1 := Scalar.andi v326 v75
  let v942 : BitVec 32 := Scalar.extui v331
  let c0_i32_817 : BitVec 32 := 0#32
  let v943 : BitVec 1 := Scalar.cmpi .ne v942 c0_i32_817
  v943

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  ![v325.toNat]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c8_i32_296 : BitVec 32 := 8#32
  let v327 : BitVec 32 := Scalar.muli v325 c8_i32_296
  let c8_i32_5 : BitVec 32 := 8#32
  let v20 : BitVec 32 := Scalar.remsi v2 c8_i32_5
  let v328 : BitVec 32 := Scalar.addi v327 v20
  let c2048_i32_298 : BitVec 32 := 2048#32
  let v332 : BitVec 32 := Scalar.muli v328 c2048_i32_298
  let c0_i32_934 : BitVec 32 := 0#32
  ![v332.toNat, 0]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c3_i32_295 : BitVec 32 := 3#32
  let v326 : BitVec 1 := Scalar.cmpi .sle v325 c3_i32_295
  let v944 : BitVec 32 := Scalar.extui v326
  let c0_i32_818 : BitVec 32 := 0#32
  let v945 : BitVec 1 := Scalar.cmpi .ne v944 c0_i32_818
  v945

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c4_i32_304 : BitVec 32 := 4#32
  let v340 : BitVec 32 := Scalar.muli v325 c4_i32_304
  let c0_i32_305 : BitVec 32 := 0#32
  let v341 : BitVec 32 := Scalar.addi v340 c0_i32_305
  ![v341.toNat]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c8_i32_301 : BitVec 32 := 8#32
  let v336 : BitVec 32 := Scalar.muli v325 c8_i32_301
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v337 : BitVec 32 := Scalar.addi v336 v107
  let c2048_i32_302 : BitVec 32 := 2048#32
  let v338 : BitVec 32 := Scalar.muli v337 c2048_i32_302
  let c0_i32_934 : BitVec 32 := 0#32
  ![v338.toNat, 0]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c3_i32_295 : BitVec 32 := 3#32
  let v326 : BitVec 1 := Scalar.cmpi .sle v325 c3_i32_295
  let v946 : BitVec 32 := Scalar.extui v326
  let c0_i32_819 : BitVec 32 := 0#32
  let v947 : BitVec 1 := Scalar.cmpi .ne v946 c0_i32_819
  v947

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c4_i32_312 : BitVec 32 := 4#32
  let v350 : BitVec 32 := Scalar.muli v325 c4_i32_312
  let c0_i32_313 : BitVec 32 := 0#32
  let v351 : BitVec 32 := Scalar.addi v350 c0_i32_313
  ![v351.toNat]
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_294 : BitVec 32 := 1#32
  let v325 : BitVec 32 := Scalar.addi v19 c1_i32_294
  let c8_i32_309 : BitVec 32 := 8#32
  let v346 : BitVec 32 := Scalar.muli v325 c8_i32_309
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v347 : BitVec 32 := Scalar.addi v346 v191
  let c2048_i32_310 : BitVec 32 := 2048#32
  let v348 : BitVec 32 := Scalar.muli v347 c2048_i32_310
  let c0_i32_934 : BitVec 32 := 0#32
  ![v348.toNat, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c0_i32_318 : BitVec 32 := 0#32
  let v357 : BitVec 1 := Scalar.cmpi .sge v356 c0_i32_318
  let c3_i32_54 : BitVec 32 := 3#32
  let v74 : BitVec 1 := Scalar.cmpi .slt v19 c3_i32_54
  let v362 : BitVec 1 := Scalar.andi v357 v74
  let v948 : BitVec 32 := Scalar.extui v362
  let c0_i32_820 : BitVec 32 := 0#32
  let v949 : BitVec 1 := Scalar.cmpi .ne v948 c0_i32_820
  v949

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  ![v356.toNat]
def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c8_i32_319 : BitVec 32 := 8#32
  let v358 : BitVec 32 := Scalar.muli v356 c8_i32_319
  let c8_i32_5 : BitVec 32 := 8#32
  let v20 : BitVec 32 := Scalar.remsi v2 c8_i32_5
  let v359 : BitVec 32 := Scalar.addi v358 v20
  let c2048_i32_321 : BitVec 32 := 2048#32
  let v363 : BitVec 32 := Scalar.muli v359 c2048_i32_321
  let c0_i32_934 : BitVec 32 := 0#32
  ![v363.toNat, 0]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c0_i32_318 : BitVec 32 := 0#32
  let v357 : BitVec 1 := Scalar.cmpi .sge v356 c0_i32_318
  let v950 : BitVec 32 := Scalar.extui v357
  let c0_i32_821 : BitVec 32 := 0#32
  let v951 : BitVec 1 := Scalar.cmpi .ne v950 c0_i32_821
  v951

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c4_i32_327 : BitVec 32 := 4#32
  let v371 : BitVec 32 := Scalar.muli v356 c4_i32_327
  let c0_i32_328 : BitVec 32 := 0#32
  let v372 : BitVec 32 := Scalar.addi v371 c0_i32_328
  ![v372.toNat]
def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c8_i32_324 : BitVec 32 := 8#32
  let v367 : BitVec 32 := Scalar.muli v356 c8_i32_324
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v368 : BitVec 32 := Scalar.addi v367 v107
  let c2048_i32_325 : BitVec 32 := 2048#32
  let v369 : BitVec 32 := Scalar.muli v368 c2048_i32_325
  let c0_i32_934 : BitVec 32 := 0#32
  ![v369.toNat, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c0_i32_318 : BitVec 32 := 0#32
  let v357 : BitVec 1 := Scalar.cmpi .sge v356 c0_i32_318
  let v952 : BitVec 32 := Scalar.extui v357
  let c0_i32_822 : BitVec 32 := 0#32
  let v953 : BitVec 1 := Scalar.cmpi .ne v952 c0_i32_822
  v953

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c4_i32_335 : BitVec 32 := 4#32
  let v381 : BitVec 32 := Scalar.muli v356 c4_i32_335
  let c0_i32_336 : BitVec 32 := 0#32
  let v382 : BitVec 32 := Scalar.addi v381 c0_i32_336
  ![v382.toNat]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_317 : BitVec 32 := 2#32
  let v356 : BitVec 32 := Scalar.subi v19 c2_i32_317
  let c8_i32_332 : BitVec 32 := 8#32
  let v377 : BitVec 32 := Scalar.muli v356 c8_i32_332
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v378 : BitVec 32 := Scalar.addi v377 v191
  let c2048_i32_333 : BitVec 32 := 2048#32
  let v379 : BitVec 32 := Scalar.muli v378 c2048_i32_333
  let c0_i32_934 : BitVec 32 := 0#32
  ![v379.toNat, 0]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c3_i32_341 : BitVec 32 := 3#32
  let v388 : BitVec 1 := Scalar.cmpi .sle v387 c3_i32_341
  let c0_i32_55 : BitVec 32 := 0#32
  let v75 : BitVec 1 := Scalar.cmpi .sgt v19 c0_i32_55
  let v393 : BitVec 1 := Scalar.andi v388 v75
  let v954 : BitVec 32 := Scalar.extui v393
  let c0_i32_823 : BitVec 32 := 0#32
  let v955 : BitVec 1 := Scalar.cmpi .ne v954 c0_i32_823
  v955

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  ![v387.toNat]
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c8_i32_342 : BitVec 32 := 8#32
  let v389 : BitVec 32 := Scalar.muli v387 c8_i32_342
  let c8_i32_5 : BitVec 32 := 8#32
  let v20 : BitVec 32 := Scalar.remsi v2 c8_i32_5
  let v390 : BitVec 32 := Scalar.addi v389 v20
  let c2048_i32_344 : BitVec 32 := 2048#32
  let v394 : BitVec 32 := Scalar.muli v390 c2048_i32_344
  let c0_i32_934 : BitVec 32 := 0#32
  ![v394.toNat, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c3_i32_341 : BitVec 32 := 3#32
  let v388 : BitVec 1 := Scalar.cmpi .sle v387 c3_i32_341
  let v956 : BitVec 32 := Scalar.extui v388
  let c0_i32_824 : BitVec 32 := 0#32
  let v957 : BitVec 1 := Scalar.cmpi .ne v956 c0_i32_824
  v957

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c4_i32_350 : BitVec 32 := 4#32
  let v402 : BitVec 32 := Scalar.muli v387 c4_i32_350
  let c0_i32_351 : BitVec 32 := 0#32
  let v403 : BitVec 32 := Scalar.addi v402 c0_i32_351
  ![v403.toNat]
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c8_i32_347 : BitVec 32 := 8#32
  let v398 : BitVec 32 := Scalar.muli v387 c8_i32_347
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v399 : BitVec 32 := Scalar.addi v398 v107
  let c2048_i32_348 : BitVec 32 := 2048#32
  let v400 : BitVec 32 := Scalar.muli v399 c2048_i32_348
  let c0_i32_934 : BitVec 32 := 0#32
  ![v400.toNat, 0]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c3_i32_341 : BitVec 32 := 3#32
  let v388 : BitVec 1 := Scalar.cmpi .sle v387 c3_i32_341
  let v958 : BitVec 32 := Scalar.extui v388
  let c0_i32_825 : BitVec 32 := 0#32
  let v959 : BitVec 1 := Scalar.cmpi .ne v958 c0_i32_825
  v959

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c4_i32_358 : BitVec 32 := 4#32
  let v412 : BitVec 32 := Scalar.muli v387 c4_i32_358
  let c0_i32_359 : BitVec 32 := 0#32
  let v413 : BitVec 32 := Scalar.addi v412 c0_i32_359
  ![v413.toNat]
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_340 : BitVec 32 := 2#32
  let v387 : BitVec 32 := Scalar.addi v19 c2_i32_340
  let c8_i32_355 : BitVec 32 := 8#32
  let v408 : BitVec 32 := Scalar.muli v387 c8_i32_355
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v409 : BitVec 32 := Scalar.addi v408 v191
  let c2048_i32_356 : BitVec 32 := 2048#32
  let v410 : BitVec 32 := Scalar.muli v409 c2048_i32_356
  let c0_i32_934 : BitVec 32 := 0#32
  ![v410.toNat, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c0_i32_364 : BitVec 32 := 0#32
  let v419 : BitVec 1 := Scalar.cmpi .sge v418 c0_i32_364
  let c3_i32_54 : BitVec 32 := 3#32
  let v74 : BitVec 1 := Scalar.cmpi .slt v19 c3_i32_54
  let v424 : BitVec 1 := Scalar.andi v419 v74
  let v960 : BitVec 32 := Scalar.extui v424
  let c0_i32_826 : BitVec 32 := 0#32
  let v961 : BitVec 1 := Scalar.cmpi .ne v960 c0_i32_826
  v961

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  ![v418.toNat]
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c8_i32_365 : BitVec 32 := 8#32
  let v420 : BitVec 32 := Scalar.muli v418 c8_i32_365
  let c8_i32_5 : BitVec 32 := 8#32
  let v20 : BitVec 32 := Scalar.remsi v2 c8_i32_5
  let v421 : BitVec 32 := Scalar.addi v420 v20
  let c2048_i32_367 : BitVec 32 := 2048#32
  let v425 : BitVec 32 := Scalar.muli v421 c2048_i32_367
  let c0_i32_934 : BitVec 32 := 0#32
  ![v425.toNat, 0]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c0_i32_364 : BitVec 32 := 0#32
  let v419 : BitVec 1 := Scalar.cmpi .sge v418 c0_i32_364
  let v962 : BitVec 32 := Scalar.extui v419
  let c0_i32_827 : BitVec 32 := 0#32
  let v963 : BitVec 1 := Scalar.cmpi .ne v962 c0_i32_827
  v963

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c4_i32_373 : BitVec 32 := 4#32
  let v433 : BitVec 32 := Scalar.muli v418 c4_i32_373
  let c0_i32_374 : BitVec 32 := 0#32
  let v434 : BitVec 32 := Scalar.addi v433 c0_i32_374
  ![v434.toNat]
def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c8_i32_370 : BitVec 32 := 8#32
  let v429 : BitVec 32 := Scalar.muli v418 c8_i32_370
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v430 : BitVec 32 := Scalar.addi v429 v107
  let c2048_i32_371 : BitVec 32 := 2048#32
  let v431 : BitVec 32 := Scalar.muli v430 c2048_i32_371
  let c0_i32_934 : BitVec 32 := 0#32
  ![v431.toNat, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c0_i32_364 : BitVec 32 := 0#32
  let v419 : BitVec 1 := Scalar.cmpi .sge v418 c0_i32_364
  let v964 : BitVec 32 := Scalar.extui v419
  let c0_i32_828 : BitVec 32 := 0#32
  let v965 : BitVec 1 := Scalar.cmpi .ne v964 c0_i32_828
  v965

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c4_i32_381 : BitVec 32 := 4#32
  let v443 : BitVec 32 := Scalar.muli v418 c4_i32_381
  let c0_i32_382 : BitVec 32 := 0#32
  let v444 : BitVec 32 := Scalar.addi v443 c0_i32_382
  ![v444.toNat]
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_363 : BitVec 32 := 3#32
  let v418 : BitVec 32 := Scalar.subi v19 c3_i32_363
  let c8_i32_378 : BitVec 32 := 8#32
  let v439 : BitVec 32 := Scalar.muli v418 c8_i32_378
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v440 : BitVec 32 := Scalar.addi v439 v191
  let c2048_i32_379 : BitVec 32 := 2048#32
  let v441 : BitVec 32 := Scalar.muli v440 c2048_i32_379
  let c0_i32_934 : BitVec 32 := 0#32
  ![v441.toNat, 0]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c3_i32_387 : BitVec 32 := 3#32
  let v450 : BitVec 1 := Scalar.cmpi .sle v449 c3_i32_387
  let c0_i32_55 : BitVec 32 := 0#32
  let v75 : BitVec 1 := Scalar.cmpi .sgt v19 c0_i32_55
  let v455 : BitVec 1 := Scalar.andi v450 v75
  let v966 : BitVec 32 := Scalar.extui v455
  let c0_i32_829 : BitVec 32 := 0#32
  let v967 : BitVec 1 := Scalar.cmpi .ne v966 c0_i32_829
  v967

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  ![v449.toNat]
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c8_i32_388 : BitVec 32 := 8#32
  let v451 : BitVec 32 := Scalar.muli v449 c8_i32_388
  let c8_i32_5 : BitVec 32 := 8#32
  let v20 : BitVec 32 := Scalar.remsi v2 c8_i32_5
  let v452 : BitVec 32 := Scalar.addi v451 v20
  let c2048_i32_390 : BitVec 32 := 2048#32
  let v456 : BitVec 32 := Scalar.muli v452 c2048_i32_390
  let c0_i32_934 : BitVec 32 := 0#32
  ![v456.toNat, 0]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c3_i32_387 : BitVec 32 := 3#32
  let v450 : BitVec 1 := Scalar.cmpi .sle v449 c3_i32_387
  let v968 : BitVec 32 := Scalar.extui v450
  let c0_i32_830 : BitVec 32 := 0#32
  let v969 : BitVec 1 := Scalar.cmpi .ne v968 c0_i32_830
  v969

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c4_i32_396 : BitVec 32 := 4#32
  let v464 : BitVec 32 := Scalar.muli v449 c4_i32_396
  let c0_i32_397 : BitVec 32 := 0#32
  let v465 : BitVec 32 := Scalar.addi v464 c0_i32_397
  ![v465.toNat]
def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c8_i32_393 : BitVec 32 := 8#32
  let v460 : BitVec 32 := Scalar.muli v449 c8_i32_393
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_69 : BitVec 32 := 0#32
  let v91 : BitVec 32 := Scalar.subi v34 c0_i32_69
  let c8_i32_70 : BitVec 32 := 8#32
  let v92 : BitVec 32 := Scalar.addi v91 c8_i32_70
  let c8_i32_71 : BitVec 32 := 8#32
  let v93 : BitVec 32 := Scalar.remsi v92 c8_i32_71
  let c7_i32_85 : BitVec 32 := 7#32
  let v106 : BitVec 1 := Scalar.cmpi .eq v93 c7_i32_85
  let c3_i32_86 : BitVec 32 := 3#32
  let c6_i32_83 : BitVec 32 := 6#32
  let v104 : BitVec 1 := Scalar.cmpi .eq v93 c6_i32_83
  let c4_i32_84 : BitVec 32 := 4#32
  let c5_i32_81 : BitVec 32 := 5#32
  let v102 : BitVec 1 := Scalar.cmpi .eq v93 c5_i32_81
  let c7_i32_82 : BitVec 32 := 7#32
  let c4_i32_79 : BitVec 32 := 4#32
  let v100 : BitVec 1 := Scalar.cmpi .eq v93 c4_i32_79
  let c6_i32_80 : BitVec 32 := 6#32
  let c3_i32_77 : BitVec 32 := 3#32
  let v98 : BitVec 1 := Scalar.cmpi .eq v93 c3_i32_77
  let c5_i32_78 : BitVec 32 := 5#32
  let c2_i32_75 : BitVec 32 := 2#32
  let v96 : BitVec 1 := Scalar.cmpi .eq v93 c2_i32_75
  let c2_i32_76 : BitVec 32 := 2#32
  let c1_i32_72 : BitVec 32 := 1#32
  let v94 : BitVec 1 := Scalar.cmpi .eq v93 c1_i32_72
  let c1_i32_74 : BitVec 32 := 1#32
  let c0_i32_73 : BitVec 32 := 0#32
  let v95 : BitVec 32 := Scalar.select v94 c1_i32_74 c0_i32_73
  let v97 : BitVec 32 := Scalar.select v96 c2_i32_76 v95
  let v99 : BitVec 32 := Scalar.select v98 c5_i32_78 v97
  let v101 : BitVec 32 := Scalar.select v100 c6_i32_80 v99
  let v103 : BitVec 32 := Scalar.select v102 c7_i32_82 v101
  let v105 : BitVec 32 := Scalar.select v104 c4_i32_84 v103
  let v107 : BitVec 32 := Scalar.select v106 c3_i32_86 v105
  let v461 : BitVec 32 := Scalar.addi v460 v107
  let c2048_i32_394 : BitVec 32 := 2048#32
  let v462 : BitVec 32 := Scalar.muli v461 c2048_i32_394
  let c0_i32_934 : BitVec 32 := 0#32
  ![v462.toNat, 0]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c3_i32_387 : BitVec 32 := 3#32
  let v450 : BitVec 1 := Scalar.cmpi .sle v449 c3_i32_387
  let v970 : BitVec 32 := Scalar.extui v450
  let c0_i32_831 : BitVec 32 := 0#32
  let v971 : BitVec 1 := Scalar.cmpi .ne v970 c0_i32_831
  v971

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c4_i32_404 : BitVec 32 := 4#32
  let v474 : BitVec 32 := Scalar.muli v449 c4_i32_404
  let c0_i32_405 : BitVec 32 := 0#32
  let v475 : BitVec 32 := Scalar.addi v474 c0_i32_405
  ![v475.toNat]
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_386 : BitVec 32 := 3#32
  let v449 : BitVec 32 := Scalar.addi v19 c3_i32_386
  let c8_i32_401 : BitVec 32 := 8#32
  let v470 : BitVec 32 := Scalar.muli v449 c8_i32_401
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_8 : BitVec 32 := 1#32
  let c0_i32_7 : BitVec 32 := 0#32
  let v22 : BitVec 32 := Scalar.select v21 c1_i32_8 c0_i32_7
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c0_i32_159 : BitVec 32 := 0#32
  let v176 : BitVec 32 := Scalar.addi v34 c0_i32_159
  let c8_i32_160 : BitVec 32 := 8#32
  let v177 : BitVec 32 := Scalar.remsi v176 c8_i32_160
  let c7_i32_174 : BitVec 32 := 7#32
  let v190 : BitVec 1 := Scalar.cmpi .eq v177 c7_i32_174
  let c3_i32_175 : BitVec 32 := 3#32
  let c6_i32_172 : BitVec 32 := 6#32
  let v188 : BitVec 1 := Scalar.cmpi .eq v177 c6_i32_172
  let c4_i32_173 : BitVec 32 := 4#32
  let c5_i32_170 : BitVec 32 := 5#32
  let v186 : BitVec 1 := Scalar.cmpi .eq v177 c5_i32_170
  let c7_i32_171 : BitVec 32 := 7#32
  let c4_i32_168 : BitVec 32 := 4#32
  let v184 : BitVec 1 := Scalar.cmpi .eq v177 c4_i32_168
  let c6_i32_169 : BitVec 32 := 6#32
  let c3_i32_166 : BitVec 32 := 3#32
  let v182 : BitVec 1 := Scalar.cmpi .eq v177 c3_i32_166
  let c5_i32_167 : BitVec 32 := 5#32
  let c2_i32_164 : BitVec 32 := 2#32
  let v180 : BitVec 1 := Scalar.cmpi .eq v177 c2_i32_164
  let c2_i32_165 : BitVec 32 := 2#32
  let c1_i32_161 : BitVec 32 := 1#32
  let v178 : BitVec 1 := Scalar.cmpi .eq v177 c1_i32_161
  let c1_i32_163 : BitVec 32 := 1#32
  let c0_i32_162 : BitVec 32 := 0#32
  let v179 : BitVec 32 := Scalar.select v178 c1_i32_163 c0_i32_162
  let v181 : BitVec 32 := Scalar.select v180 c2_i32_165 v179
  let v183 : BitVec 32 := Scalar.select v182 c5_i32_167 v181
  let v185 : BitVec 32 := Scalar.select v184 c6_i32_169 v183
  let v187 : BitVec 32 := Scalar.select v186 c7_i32_171 v185
  let v189 : BitVec 32 := Scalar.select v188 c4_i32_173 v187
  let v191 : BitVec 32 := Scalar.select v190 c3_i32_175 v189
  let v471 : BitVec 32 := Scalar.addi v470 v191
  let c2048_i32_402 : BitVec 32 := 2048#32
  let v472 : BitVec 32 := Scalar.muli v471 c2048_i32_402
  let c0_i32_934 : BitVec 32 := 0#32
  ![v472.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S65536x512 : Shape := ⟨2, ![65536, 512]⟩

abbrev nBuf : Space → Nat
  | .hbm => 1
  | .vmem => 0
  | .smem => 0
  | _ => 0

abbrev bufTy : (tb : Table) → Fin (tcTables nBuf tb) → BufTy
  | .hbm, ⟨0, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Plan.lean ====
/-
  The plan of the all-gather, apart from any program: which block travels from which device to which, over which semaphore,
  and in which order a device sends and waits. Devices are numbered `8 * z + p`, plane `z` and place `p`; the places of a plane
  form a ring in the order `0 1 2 5 6 7 4 3`.

  A *lane* is one remote copy a device can make. Lanes `0..3` go one plane up (`zu`, lane `o` carries plane `o`'s block of
  the column), `4..7` one plane down (`zd`), `8..23` to the next place of the ring (`cw`, lane `8 + 4 q + h` is hop `h` of
  plane `q`'s blocks), `24..39` to the previous place (`cc`).
-/
module

public import Mathlib.Data.Fintype.Option
public import Mathlib.Data.Fintype.Basic
public import Mathlib.Data.Fintype.Prod
public import Mathlib.Data.Finset.Prod
public import Mathlib.Data.Fintype.Pi
public import Mathlib.Data.List.Basic
public import Mathlib.Tactic.Linarith

@[expose] public section

set_option maxRecDepth 65536

namespace Cert.Plan

/-- A lane: one of the forty remote copies a device can make. -/
abbrev Lane := Fin 40

/-! ## The mesh -/

/-- The place at each position of a plane's ring. -/
def ringAt (r : ℕ) : ℕ := [0, 1, 2, 5, 6, 7, 4, 3].getD r 0
/-- The position of each place on its plane's ring. -/
def posOf (p : ℕ) : ℕ := [0, 1, 2, 7, 6, 3, 4, 5].getD p 0

/-- The plane of a device. -/
def zOf (c : Fin 32) : Fin 4 := ⟨c.val / 8, by omega⟩
/-- The position of a device on its plane's ring. -/
def rOf (c : Fin 32) : ℕ := posOf (c.val % 8)
/-- The device `s` places further along the ring of `c`. -/
def along (c : Fin 32) (s : ℕ) : Fin 32 := ⟨(8 * (c.val / 8) + ringAt ((rOf c + s) % 8)) % 32, Nat.mod_lt _ (by decide)⟩

/-- The group of a lane, by where it leads: `0` the next place, `1` the previous one, `2` the plane above, `3` the plane below. -/
def grp (k : Lane) : Fin 4 := if k.val < 4 then 2 else if k.val < 8 then 3 else if k.val < 24 then 0 else 1
/-- The device that a group of lanes leads to. -/
def tgt (j : Fin 4) (c : Fin 32) : Fin 32 :=
  if j = 0 then along c 1 else if j = 1 then along c 7 else if j = 2 then ⟨(c.val + 8) % 32, by omega⟩ else ⟨(c.val + 24) % 32, by omega⟩
/-- The device a group of lanes comes from. -/
def frm (j : Fin 4) (c : Fin 32) : Fin 32 :=
  if j = 0 then along c 7 else if j = 1 then along c 1 else if j = 2 then ⟨(c.val + 24) % 32, by omega⟩ else ⟨(c.val + 8) % 32, by omega⟩

/-- Whether a device of plane `z` sends on a lane. -/
def act (k : Lane) (z : Fin 4) : Bool :=
  if k.val < 4 then z.val < 3 && k.val ≤ z.val
  else if k.val < 8 then 0 < z.val && z.val ≤ k.val - 4
  else if k.val < 24 then (k.val - 8) % 4 < 3 || (k.val - 8) / 4 < 2
  else (k.val - 24) % 4 < 3 || 2 ≤ (k.val - 24) / 4
/-- Whether a device of plane `z` receives on a lane. -/
def ract (k : Lane) (z : Fin 4) : Bool :=
  if k.val < 4 then k.val < z.val
  else if k.val < 8 then z.val < k.val - 4
  else act k z

/-- The block a device sends on a lane. -/
def org (k : Lane) (c : Fin 32) : Fin 32 :=
  ⟨(if k.val < 4 then 8 * k.val + c.val % 8
    else if k.val < 8 then 8 * (k.val - 4) + c.val % 8
    else if k.val < 24 then 8 * ((k.val - 8) / 4) + ringAt ((rOf c + 8 - (k.val - 8) % 4) % 8)
    else 8 * ((k.val - 24) / 4) + ringAt ((rOf c + (k.val - 24) % 4) % 8)) % 32, Nat.mod_lt _ (by decide)⟩
/-- The block a device receives on a lane. -/
def rorg (k : Lane) (c : Fin 32) : Fin 32 := org k (frm (grp k) c)

/-- Where a device of plane `z` has the block it sends on a lane from: its own argument, or the lane it arrived on. -/
def via (k : Lane) (z : Fin 4) : Option Lane :=
  let first (q : ℕ) : Option Lane := if q = z.val then none else if q < z.val then some (Fin.ofNat 40 q) else some (Fin.ofNat 40 (4 + q))
  if k.val < 4 then first k.val
  else if k.val < 8 then first (k.val - 4)
  else if (k.val - 8) % 4 = 0 then first ((k.val - 8) / 4 % 4)
  else some (k - 1)

/-! ## The order of a device's program -/

/-- The code of sending on a lane, -/
def snd (k : ℕ) : ℕ := 100 + k
/-- of waiting for a lane's arrival, -/
def rcv (k : ℕ) : ℕ := 200 + k
/-- of waiting for a lane's departure, -/
def dep (k : ℕ) : ℕ := 300 + k
/-- of starting the local copy, -/
def cpy : ℕ := 1
/-- of waiting for the local copy, -/
def cwt : ℕ := 2
/-- and of a step whose condition fails. -/
def skp : ℕ := 0

/-- The lane of hop `h` of plane `q` to the next place, -/
def cw (q h : ℕ) : ℕ := 8 + 4 * q + h
/-- and to the previous place. -/
def cc (q h : ℕ) : ℕ := 24 + 4 * q + h
/-- A step under a condition. -/
def on (b : Bool) (e : ℕ) : ℕ := if b then e else skp

/-- One round of the column: the block from `d` planes below, then the one from `d` planes above. -/
def column (z d : ℕ) : List ℕ :=
  let b := decide (d ≤ z); let a := decide (z + d ≤ 3)
  [on b (rcv (z - d)), on (b && decide (z < 3)) (snd (z - d)), on b (snd (cw (z - d) 0)), on b (snd (cc (z - d) 0)),
   on a (rcv (4 + (z + d))), on (a && decide (0 < z)) (snd (4 + (z + d))), on a (snd (cw (z + d) 0)), on a (snd (cc (z + d) 0))]
/-- The ring hops after the first, as pairs of the lane waited for and the lane sent on. -/
def hops : List ℕ :=
  [cw 0 1, cc 0 1, cw 1 1, cc 1 1, cw 2 1, cc 2 1, cw 3 1, cc 3 1,
   cw 0 2, cc 0 2, cw 1 2, cc 1 2, cw 2 2, cc 2 2, cw 3 2, cc 3 2,
   cw 0 3, cw 1 3, cc 2 3, cc 3 3]
/-- The last hop of each plane's ring, both ways. -/
def lasts : List ℕ := [cw 0 3, cc 0 2, cw 1 3, cc 1 2, cw 2 2, cc 2 3, cw 3 2, cc 3 3]
/-- Everything a device of plane `z` does after the barrier, in order. -/
def prog (z : ℕ) : List ℕ :=
  [snd (cw z 0), snd (cc z 0), on (decide (z < 3)) (snd z), on (decide (0 < z)) (snd (4 + z)), cpy]
  ++ column z 1 ++ column z 2 ++ column z 3
  ++ (hops.flatMap fun k => [rcv (k - 1), snd k])
  ++ lasts.map rcv
  ++ [dep (cw z 0), dep (cc z 0), on (decide (z < 3)) (dep z), on (decide (0 < z)) (dep (4 + z))]
  ++ ([1, 2, 3].flatMap fun d =>
      let b := decide (d ≤ z); let a := decide (z + d ≤ 3)
      [on (b && decide (z < 3)) (dep (z - d)), on b (dep (cw (z - d) 0)), on b (dep (cc (z - d) 0)),
       on (a && decide (0 < z)) (dep (4 + (z + d))), on a (dep (cw (z + d) 0)), on a (dep (cc (z + d) 0))])
  ++ hops.map dep ++ [cwt]

/-- The number of steps. -/
def END : ℕ := 120

/-- Step `n` of a device of plane `z`. -/
def ev (z : Fin 4) (n : ℕ) : ℕ := (prog z.val).getD n skp
/-- When it sends on a lane, -/
def tS (z : Fin 4) (k : Lane) : ℕ := (prog z.val).idxOf (snd k.val)
/-- when it waits for a lane's arrival, -/
def tR (z : Fin 4) (k : Lane) : ℕ := (prog z.val).idxOf (rcv k.val)
/-- when it waits for a lane's departure. -/
def tW (z : Fin 4) (k : Lane) : ℕ := (prog z.val).idxOf (dep k.val)

/-! ## Facts about the mesh, by evaluation -/

/-- Following a group of lanes back leads to where they were followed from, -/
theorem frm_tgt : ∀ (j : Fin 4) (c : Fin 32), frm j (tgt j c) = c := by decide +kernel
/-- and the other way round. -/
theorem tgt_frm : ∀ (j : Fin 4) (c : Fin 32), tgt j (frm j c) = c := by decide +kernel
/-- A device sends on a lane exactly when the device it leads to receives on it. -/
theorem ract_tgt : ∀ (k : Lane) (c : Fin 32), ract k (zOf (tgt (grp k) c)) = act k (zOf c) := by decide +kernel
/-- A device receives on a lane exactly when the device it comes from sends on it. -/
theorem act_frm (k : Lane) (c : Fin 32) : act k (zOf (frm (grp k) c)) = ract k (zOf c) := by
  rw [← ract_tgt, tgt_frm]
/-- The block that arrives is the block that was sent. -/
theorem rorg_tgt (k : Lane) (c : Fin 32) : rorg k (tgt (grp k) c) = org k c := by
  rw [rorg, frm_tgt]
/-- The block a device sends is its own, or the one that arrived where it takes it from. -/
theorem org_via : ∀ (k : Lane) (c : Fin 32), act k (zOf c) = true →
    org k c = (via k (zOf c)).elim c (fun a => rorg a c) := by decide +kernel
/-- The lane on which a device receives a block. -/
def laneFor (c b : Fin 32) : Lane :=
  let q := b.val / 8
  let d := (rOf c + 8 - posOf (b.val % 8)) % 8
  Fin.ofNat 40 (if d = 0 then (if q < c.val / 8 then q else 4 + q)
    else if d ≤ (if q < 2 then 4 else 3) then cw q (d - 1) else cc q (7 - d))
/-- The block that arrives on a lane tells the lane. -/
theorem laneFor_rorg : ∀ (c : Fin 32) (k : Lane), ract k (zOf c) = true → laneFor c (rorg k c) = k := by decide +kernel
/-- So the blocks that arrive are different from one another; -/
theorem rorg_inj {c : Fin 32} {k k' : Lane} (h : ract k (zOf c) = true) (h' : ract k' (zOf c) = true) (e : rorg k c = rorg k' c) : k = k' := by
  rw [← laneFor_rorg c k h, e, laneFor_rorg c k' h']
/-- they are different from the device's own, -/
theorem rorg_ne : ∀ (c : Fin 32) (k : Lane), ract k (zOf c) = true → rorg k c ≠ c := by decide +kernel
/-- and together with it they are all blocks. -/
theorem rorg_all : ∀ (c b : Fin 32), b ≠ c → ract (laneFor c b) (zOf c) = true ∧ rorg (laneFor c b) c = b := by decide +kernel

/-! ## Facts about the order, by evaluation -/

/-- Every device's program has the same number of steps. -/
theorem prog_length : ∀ z : Fin 4, (prog z.val).length = END := by decide +kernel
/-- An active lane is sent on once its block is there, and its departure is waited for later. -/
theorem send_facts : ∀ (z : Fin 4) (k : Lane), act k z = true →
    ev z (tS z k) = snd k.val ∧ ev z (tW z k) = dep k.val ∧ tS z k < tW z k ∧ tW z k < END ∧
      (via k z).all (fun a => ract a z && decide (tR z a < tS z k)) = true := by decide +kernel
/-- Every arrival is waited for. -/
theorem recv_facts : ∀ (z : Fin 4) (k : Lane), ract k z = true → ev z (tR z k) = rcv k.val ∧ tR z k < END := by decide +kernel
/-- The lane a step's code names. -/
def laneOf (e : ℕ) : Lane := Fin.ofNat 40 (e % 100)
/-- A send's code names its lane, -/
theorem laneOf_snd : ∀ k : Lane, laneOf (snd k.val) = k := by decide +kernel
/-- and so does that of a wait for an arrival -/
theorem laneOf_rcv : ∀ k : Lane, laneOf (rcv k.val) = k := by decide +kernel
/-- and that of a wait for a departure. -/
theorem laneOf_dep : ∀ k : Lane, laneOf (dep k.val) = k := by decide +kernel
/-- Each step's lane is active, and the step stands at that lane's time. -/
theorem at_facts : ∀ (z : Fin 4) (n : Fin END),
    (ev z n.val / 100 = 1 → act (laneOf (ev z n.val)) z = true ∧ tS z (laneOf (ev z n.val)) = n.val) ∧
    (ev z n.val / 100 = 2 → ract (laneOf (ev z n.val)) z = true ∧ tR z (laneOf (ev z n.val)) = n.val) ∧
    (ev z n.val / 100 = 3 → act (laneOf (ev z n.val)) z = true ∧ tW z (laneOf (ev z n.val)) = n.val) := by decide +kernel
/-- There is no step past the end. -/
theorem ev_end (z : Fin 4) (n : ℕ) (h : END ≤ n) : ev z n = 0 := by
  unfold ev; rw [List.getD_eq_getElem?_getD, List.getElem?_eq_none (by rw [prog_length]; exact h)]; rfl
/-- A send on a lane stands at that lane's time only, and the lane is active; -/
theorem snd_at {z : Fin 4} {n : ℕ} {k : Lane} (h : ev z n = snd k.val) : act k z = true ∧ tS z k = n := by
  have hk := k.isLt
  rcases Nat.lt_or_ge n END with hn | hn
  · have f := (at_facts z ⟨n, hn⟩).1 (by rw [show ev z n = _ from h, snd]; omega)
    rwa [show ev z n = _ from h, laneOf_snd] at f
  · rw [ev_end z n hn, snd] at h; omega
/-- a wait for an arrival likewise, -/
theorem rcv_at {z : Fin 4} {n : ℕ} {k : Lane} (h : ev z n = rcv k.val) : ract k z = true ∧ tR z k = n := by
  have hk := k.isLt
  rcases Nat.lt_or_ge n END with hn | hn
  · have f := (at_facts z ⟨n, hn⟩).2.1 (by rw [show ev z n = _ from h, rcv]; omega)
    rwa [show ev z n = _ from h, laneOf_rcv] at f
  · rw [ev_end z n hn, rcv] at h; omega
/-- and a wait for a departure. -/
theorem dep_at {z : Fin 4} {n : ℕ} {k : Lane} (h : ev z n = dep k.val) : act k z = true ∧ tW z k = n := by
  have hk := k.isLt
  rcases Nat.lt_or_ge n END with hn | hn
  · have f := (at_facts z ⟨n, hn⟩).2.2 (by rw [show ev z n = _ from h, dep]; omega)
    rwa [show ev z n = _ from h, laneOf_dep] at f
  · rw [ev_end z n hn, dep] at h; omega
/-- No two lanes take the same block the same way. -/
theorem via_inj : ∀ (z : Fin 4) (k k' : Lane), act k z = true → act k' z = true → via k z = via k' z → grp k = grp k' → k = k' := by
  decide +kernel

end Cert.Plan
-- ==== Proof.Sets.lean ====
/-
  Where everything is before step `n` of a device of plane `z`: the lanes not yet sent on, those in flight, those whose
  departure was waited for, the lanes on which an arrival is still due and those on which it came, and the shares of blocks the
  device has at hand. Each step of the program moves one lane from one set to the next.

  A block at a device is held in eight equal shares; the copy sent on a lane reads the share of the lane's group, and the
  device's local copy reads share `4` of its own block.
-/
module

public import proofs.«01_k».proof.Proof.Plan

@[expose] public section

namespace Cert.Plan

/-- A share of a block at a device: the lane the block arrived on (`none` for the device's own) and the number of the share. -/
abbrev Piece := Option Lane × Fin 8

/-- The share that the copy on a lane reads. -/
def lent (k : Lane) (z : Fin 4) : Piece := (via k z, (grp k).castLE (by decide))

/-- The lanes not yet sent on; -/
def unsent (z : Fin 4) (n : ℕ) : Finset Lane := Finset.univ.filter fun k => act k z = true ∧ n ≤ tS z k
/-- those sent on whose departure is not yet waited for; -/
def flying (z : Fin 4) (n : ℕ) : Finset Lane := Finset.univ.filter fun k => act k z = true ∧ tS z k < n ∧ n ≤ tW z k
/-- those whose departure was waited for; -/
def gone (z : Fin 4) (n : ℕ) : Finset Lane := Finset.univ.filter fun k => act k z = true ∧ tW z k < n
/-- the lanes on which an arrival is due; -/
def due (z : Fin 4) (n : ℕ) : Finset Lane := Finset.univ.filter fun k => ract k z = true ∧ n ≤ tR z k
/-- those on which it came; -/
def came (z : Fin 4) (n : ℕ) : Finset Lane := Finset.univ.filter fun k => ract k z = true ∧ tR z k < n
/-- the shares at hand, of blocks that are there and not yet lent. -/
def hand (z : Fin 4) (n : ℕ) : Finset Piece := Finset.univ.filter fun p =>
  (∀ a, p.1 = some a → a ∈ came z n) ∧ (p ≠ (none, 4)) ∧ ∀ k, act k z = true → lent k z = p → n ≤ tS z k

/-- Before step `n`, all sets at once. -/
structure Now where
  unsent : Finset Lane
  flying : Finset Lane
  gone : Finset Lane
  due : Finset Lane
  came : Finset Lane
  hand : Finset Piece
/-- The sets before step `n` of a device of plane `z`. -/
def now (z : Fin 4) (n : ℕ) : Now := ⟨unsent z n, flying z n, gone z n, due z n, came z n, hand z n⟩

variable {z : Fin 4} {n : ℕ} {k : Lane}

/-- A step that isn't the send on an active lane isn't at the time of that send; -/
theorem tS_ne (h : ev z n ≠ snd k.val) (ha : act k z = true) : tS z k ≠ n := fun e => h (e ▸ (send_facts z k ha).1)
/-- one that isn't the wait for its departure isn't at the time of that wait; -/
theorem tW_ne (h : ev z n ≠ dep k.val) (ha : act k z = true) : tW z k ≠ n := fun e => h (e ▸ (send_facts z k ha).2.1)
/-- one that isn't the wait for its arrival isn't at the time of that wait. -/
theorem tR_ne (h : ev z n ≠ rcv k.val) (ha : ract k z = true) : tR z k ≠ n := fun e => h (e ▸ (recv_facts z k ha).1)
/-- A lane's departure is waited for after the lane is sent on. -/
theorem lt_tW (ha : act k z = true) : tS z k < tW z k := (send_facts z k ha).2.2.1

/-- Lent shares tell their lanes. -/
theorem lent_inj {k' : Lane} (h : act k z = true) (h' : act k' z = true) (e : lent k z = lent k' z) : k = k' :=
  via_inj z k k' h h' (congrArg Prod.fst e) (Fin.ext (congrArg (fun p : Piece => p.2.val) e))
/-- No lane reads the local copy's share. -/
theorem lent_ne (k : Lane) (z : Fin 4) : lent k z ≠ (none, 4) := fun e => by
  have h := congrArg (fun p : Piece => p.2.val) e
  have := (grp k).isLt
  simp only [lent, Fin.val_castLE] at h
  omega

/-- The codes of the kinds are apart, and each kind's tell the lane. -/
theorem snd_inj {a b : Lane} (h : snd a.val = snd b.val) : a = b := Fin.ext (by unfold snd at h; omega)
/-- The same of the waits for an arrival, -/
theorem rcv_inj {a b : Lane} (h : rcv a.val = rcv b.val) : a = b := Fin.ext (by unfold rcv at h; omega)
/-- and of the waits for a departure. -/
theorem dep_inj {a b : Lane} (h : dep a.val = dep b.val) : a = b := Fin.ext (by unfold dep at h; omega)
/-- A send is no wait for an arrival, -/
theorem snd_ne_rcv (a b : Lane) : snd a.val ≠ rcv b.val := by unfold snd rcv; omega
/-- a send is no wait for a departure, -/
theorem snd_ne_dep (a b : Lane) : snd a.val ≠ dep b.val := by unfold snd dep; omega
/-- and a wait for an arrival is no wait for a departure. -/
theorem rcv_ne_dep (a b : Lane) : rcv a.val ≠ dep b.val := by unfold rcv dep; omega

/-! ## A step that is no send leaves the unsent lanes, and so on -/

/-- Without a send, the unsent lanes stay; -/
theorem unsent_succ (h : ∀ k : Lane, ev z n ≠ snd k.val) : unsent z (n + 1) = unsent z n := by
  ext k; simp only [unsent, Finset.mem_filter, Finset.mem_univ, true_and]
  exact and_congr_right fun ha => by have := tS_ne (h k) ha; omega
/-- without a send or a wait for a departure, those in flight stay; -/
theorem flying_succ (h : ∀ k : Lane, ev z n ≠ snd k.val) (h' : ∀ k : Lane, ev z n ≠ dep k.val) : flying z (n + 1) = flying z n := by
  ext k; simp only [flying, Finset.mem_filter, Finset.mem_univ, true_and]
  exact and_congr_right fun ha => by have := tS_ne (h k) ha; have := tW_ne (h' k) ha; omega
/-- without a wait for a departure, those that are gone stay; -/
theorem gone_succ (h : ∀ k : Lane, ev z n ≠ dep k.val) : gone z (n + 1) = gone z n := by
  ext k; simp only [gone, Finset.mem_filter, Finset.mem_univ, true_and]
  exact and_congr_right fun ha => by have := tW_ne (h k) ha; omega
/-- without a wait for an arrival, the arrivals due stay, -/
theorem due_succ (h : ∀ k : Lane, ev z n ≠ rcv k.val) : due z (n + 1) = due z n := by
  ext k; simp only [due, Finset.mem_filter, Finset.mem_univ, true_and]
  exact and_congr_right fun ha => by have := tR_ne (h k) ha; omega
/-- and so do those that came; -/
theorem came_succ (h : ∀ k : Lane, ev z n ≠ rcv k.val) : came z (n + 1) = came z n := by
  ext k; simp only [came, Finset.mem_filter, Finset.mem_univ, true_and]
  exact and_congr_right fun ha => by have := tR_ne (h k) ha; omega
/-- without a send or a wait for an arrival, the shares at hand stay. -/
theorem hand_succ (h : ∀ k : Lane, ev z n ≠ snd k.val) (h' : ∀ k : Lane, ev z n ≠ rcv k.val) : hand z (n + 1) = hand z n := by
  ext p; simp only [hand, came_succ h', Finset.mem_filter, Finset.mem_univ, true_and]
  refine and_congr_right fun _ => and_congr_right fun _ => forall_congr' fun k => ?_
  exact imp_congr_right fun ha => imp_congr_right fun _ => by have := tS_ne (h k) ha; omega

/-- A step that is no send and no wait on a lane changes nothing. -/
theorem now_succ (h : ∀ k : Lane, ev z n ≠ snd k.val) (h' : ∀ k : Lane, ev z n ≠ rcv k.val) (h'' : ∀ k : Lane, ev z n ≠ dep k.val) :
    now z (n + 1) = now z n := by
  unfold now
  rw [unsent_succ h, flying_succ h h'', gone_succ h'', due_succ h', came_succ h', hand_succ h h']

/-! ## A send -/

/-- A send takes its lane from the unsent ones, -/
theorem unsent_send (e : ev z n = snd k.val) : unsent z n = insert k (unsent z (n + 1)) ∧ k ∉ unsent z (n + 1) := by
  have hk := snd_at e
  constructor
  · ext k'; simp only [unsent, Finset.mem_filter, Finset.mem_univ, true_and, Finset.mem_insert]
    constructor
    · rintro ⟨ha, hn⟩
      by_cases hkk : k' = k
      · exact .inl hkk
      · have := tS_ne (n := n) (by rw [e]; exact fun h => hkk (snd_inj h).symm) ha; exact .inr ⟨ha, by omega⟩
    · rintro (rfl | ⟨ha, hn⟩)
      · exact ⟨hk.1, by omega⟩
      · exact ⟨ha, by omega⟩
  · simp only [unsent, Finset.mem_filter, Finset.mem_univ, true_and, not_and]; omega
/-- and puts it in flight. -/
theorem flying_send (e : ev z n = snd k.val) : flying z (n + 1) = insert k (flying z n) ∧ k ∉ flying z n := by
  have hk := snd_at e
  constructor
  · ext k'; simp only [flying, Finset.mem_filter, Finset.mem_univ, true_and, Finset.mem_insert]
    constructor
    · rintro ⟨ha, hn, hm⟩
      by_cases hkk : k' = k
      · exact .inl hkk
      · have := tS_ne (n := n) (by rw [e]; exact fun h => hkk (snd_inj h).symm) ha; exact .inr ⟨ha, by omega, by omega⟩
    · rintro (rfl | ⟨ha, hn, hm⟩)
      · have := lt_tW hk.1; exact ⟨hk.1, by omega, by omega⟩
      · have := tW_ne (n := n) (by rw [e]; exact snd_ne_dep k k') ha; exact ⟨ha, by omega, by omega⟩
  · simp only [flying, Finset.mem_filter, Finset.mem_univ, true_and, not_and]; omega
/-- The block that a send passes on has arrived by then. -/
theorem came_via {a : Lane} (e : ev z n = snd k.val) (h : via k z = some a) : a ∈ came z n := by
  have hk := snd_at e
  have f := (send_facts z k hk.1).2.2.2.2
  rw [h, Option.all_some, Bool.and_eq_true, decide_eq_true_eq] at f
  simp only [came, Finset.mem_filter, Finset.mem_univ, true_and]
  exact ⟨f.1, by omega⟩
/-- A send lends one share that was at hand. -/
theorem hand_send (e : ev z n = snd k.val) : hand z n = insert (lent k z) (hand z (n + 1)) ∧ lent k z ∉ hand z (n + 1) := by
  have hk := snd_at e
  have hc := came_succ (z := z) (n := n) fun k' => by rw [e]; exact snd_ne_rcv k k'
  constructor
  · ext p; simp only [hand, hc, Finset.mem_filter, Finset.mem_univ, true_and, Finset.mem_insert]
    constructor
    · rintro ⟨hp, hq, hr⟩
      by_cases hpk : p = lent k z
      · exact .inl hpk
      · refine .inr ⟨hp, hq, fun k' ha hl => ?_⟩
        have := hr k' ha hl
        have := tS_ne (n := n) (k := k') (by rw [e]; exact fun h => hpk (by rw [snd_inj h, hl])) ha
        omega
    · rintro (rfl | ⟨hp, hq, hr⟩)
      · refine ⟨fun a h => came_via e h, lent_ne k z, fun k' ha hl => ?_⟩
        rw [lent_inj ha hk.1 hl]; omega
      · exact ⟨hp, hq, fun k' ha hl => by have := hr k' ha hl; omega⟩
  · simp only [hand, Finset.mem_filter, Finset.mem_univ, true_and, not_and, not_forall]
    exact fun _ _ => ⟨k, hk.1, rfl, by omega⟩

/-! ## A wait for an arrival -/

/-- A wait for an arrival takes its lane from those due, -/
theorem due_recv (e : ev z n = rcv k.val) : due z n = insert k (due z (n + 1)) ∧ k ∉ due z (n + 1) := by
  have hk := rcv_at e
  constructor
  · ext k'; simp only [due, Finset.mem_filter, Finset.mem_univ, true_and, Finset.mem_insert]
    constructor
    · rintro ⟨ha, hn⟩
      by_cases hkk : k' = k
      · exact .inl hkk
      · have := tR_ne (n := n) (by rw [e]; exact fun h => hkk (rcv_inj h).symm) ha; exact .inr ⟨ha, by omega⟩
    · rintro (rfl | ⟨ha, hn⟩)
      · exact ⟨hk.1, by omega⟩
      · exact ⟨ha, by omega⟩
  · simp only [due, Finset.mem_filter, Finset.mem_univ, true_and, not_and]; omega
/-- and puts it to those that came. -/
theorem came_recv (e : ev z n = rcv k.val) : came z (n + 1) = insert k (came z n) ∧ k ∉ came z n := by
  have hk := rcv_at e
  constructor
  · ext k'; simp only [came, Finset.mem_filter, Finset.mem_univ, true_and, Finset.mem_insert]
    constructor
    · rintro ⟨ha, hn⟩
      by_cases hkk : k' = k
      · exact .inl hkk
      · have := tR_ne (n := n) (by rw [e]; exact fun h => hkk (rcv_inj h).symm) ha; exact .inr ⟨ha, by omega⟩
    · rintro (rfl | ⟨ha, hn⟩)
      · exact ⟨hk.1, by omega⟩
      · exact ⟨ha, by omega⟩
  · simp only [came, Finset.mem_filter, Finset.mem_univ, true_and, not_and]; omega
/-- The eight shares of the block that arrived on a lane. -/
def row (a : Option Lane) : Finset Piece := Finset.univ.filter fun p => p.1 = a
/-- A share is in a lane's row when it's of the block that arrived on that lane. -/
theorem mem_row {a : Option Lane} {p : Piece} : p ∈ row a ↔ p.1 = a := by simp [row]
/-- All shares of a block that arrives come to hand. -/
theorem hand_recv (e : ev z n = rcv k.val) : hand z (n + 1) = hand z n ∪ row (some k) ∧ Disjoint (hand z n) (row (some k)) := by
  have hk := rcv_at e
  obtain ⟨hc, hkc⟩ := came_recv e
  have hs : ∀ k' : Lane, act k' z = true → tS z k' ≠ n := fun k' => tS_ne (by rw [e]; exact fun h => snd_ne_rcv k' k h.symm)
  constructor
  · ext p; simp only [hand, hc, Finset.mem_filter, Finset.mem_univ, true_and, Finset.mem_union, mem_row, Finset.mem_insert]
    constructor
    · rintro ⟨hp, hq, hr⟩
      by_cases hpk : p.1 = some k
      · exact .inr hpk
      · exact .inl ⟨fun a h => (hp a h).resolve_left fun hak => hpk (hak ▸ h), hq, fun k' ha hl => by have := hr k' ha hl; omega⟩
    · rintro (⟨hp, hq, hr⟩ | hp)
      · exact ⟨fun a h => .inr (hp a h), hq, fun k' ha hl => by have := hr k' ha hl; have := hs k' ha; omega⟩
      · refine ⟨fun a h => .inl (Option.some.inj (h.symm.trans hp)), fun h => by simp [h] at hp, fun k' ha hl => ?_⟩
        have f := (send_facts z k' ha).2.2.2.2
        rw [show via k' z = some k from (congrArg Prod.fst hl).trans hp, Option.all_some, Bool.and_eq_true, decide_eq_true_eq] at f
        omega
  · rw [Finset.disjoint_left]
    intro p hp hr
    simp only [hand, Finset.mem_filter, Finset.mem_univ, true_and] at hp
    exact hkc (hp.1 k (mem_row.1 hr))

/-! ## A wait for a departure -/

/-- A wait for a departure takes its lane from those in flight, -/
theorem flying_dep (e : ev z n = dep k.val) : flying z n = insert k (flying z (n + 1)) ∧ k ∉ flying z (n + 1) := by
  have hk := dep_at e
  constructor
  · ext k'; simp only [flying, Finset.mem_filter, Finset.mem_univ, true_and, Finset.mem_insert]
    constructor
    · rintro ⟨ha, hn, hm⟩
      by_cases hkk : k' = k
      · exact .inl hkk
      · have := tW_ne (n := n) (by rw [e]; exact fun h => hkk (dep_inj h).symm) ha; exact .inr ⟨ha, by omega, by omega⟩
    · rintro (rfl | ⟨ha, hn, hm⟩)
      · have := lt_tW hk.1; exact ⟨hk.1, by omega, by omega⟩
      · have := tS_ne (n := n) (by rw [e]; exact fun h => snd_ne_dep k' k h.symm) ha; exact ⟨ha, by omega, by omega⟩
  · simp only [flying, Finset.mem_filter, Finset.mem_univ, true_and, not_and]; omega
/-- and puts it to those that are gone. -/
theorem gone_dep (e : ev z n = dep k.val) : gone z (n + 1) = insert k (gone z n) ∧ k ∉ gone z n := by
  have hk := dep_at e
  constructor
  · ext k'; simp only [gone, Finset.mem_filter, Finset.mem_univ, true_and, Finset.mem_insert]
    constructor
    · rintro ⟨ha, hn⟩
      by_cases hkk : k' = k
      · exact .inl hkk
      · have := tW_ne (n := n) (by rw [e]; exact fun h => hkk (dep_inj h).symm) ha; exact .inr ⟨ha, by omega⟩
    · rintro (rfl | ⟨ha, hn⟩)
      · exact ⟨hk.1, by omega⟩
      · exact ⟨ha, by omega⟩
  · simp only [gone, Finset.mem_filter, Finset.mem_univ, true_and, not_and]; omega

/-! ## The beginning and the end -/

/-- At the start all active lanes are unsent, -/
theorem unsent_zero (z : Fin 4) : unsent z 0 = Finset.univ.filter fun k => act k z = true := by
  ext k; simp [unsent]
/-- all arrivals are due, -/
theorem due_zero (z : Fin 4) : due z 0 = Finset.univ.filter fun k => ract k z = true := by
  ext k; simp [due]
/-- no lane is in flight, -/
theorem flying_zero (z : Fin 4) : flying z 0 = ∅ := by ext k; simp [flying]
/-- none is gone, -/
theorem gone_zero (z : Fin 4) : gone z 0 = ∅ := by ext k; simp [gone]
/-- nothing has come, -/
theorem came_zero (z : Fin 4) : came z 0 = ∅ := by ext k; simp [came]
/-- and at hand are the shares of the device's own block but for the local copy's. -/
theorem hand_zero (z : Fin 4) : hand z 0 = (row none).erase (none, 4) := by
  ext ⟨a, j⟩
  simp only [hand, came_zero, Finset.mem_filter, Finset.mem_univ, true_and, Finset.mem_erase, mem_row, Nat.zero_le, implies_true, and_true,
    Finset.notMem_empty]
  cases a <;> simp

/-- At the end no lane is unsent, -/
theorem unsent_end (z : Fin 4) : unsent z END = ∅ := by
  ext k; simp only [unsent, Finset.mem_filter, Finset.mem_univ, true_and, Finset.notMem_empty, iff_false, not_and, not_le]
  exact fun ha => (lt_tW ha).trans (send_facts z k ha).2.2.2.1
/-- none is in flight, -/
theorem flying_end (z : Fin 4) : flying z END = ∅ := by
  ext k; simp only [flying, Finset.mem_filter, Finset.mem_univ, true_and, Finset.notMem_empty, iff_false, not_and, not_le]
  exact fun ha _ => (send_facts z k ha).2.2.2.1
/-- all active ones are gone, -/
theorem gone_end (z : Fin 4) : gone z END = Finset.univ.filter fun k => act k z = true := by
  ext k; simp only [gone, Finset.mem_filter, Finset.mem_univ, true_and]
  exact and_iff_left_of_imp fun ha => (send_facts z k ha).2.2.2.1
/-- no arrival is due, -/
theorem due_end (z : Fin 4) : due z END = ∅ := by
  ext k; simp only [due, Finset.mem_filter, Finset.mem_univ, true_and, Finset.notMem_empty, iff_false, not_and, not_le]
  exact fun ha => (recv_facts z k ha).2
/-- and all have come. -/
theorem came_end (z : Fin 4) : came z END = Finset.univ.filter fun k => ract k z = true := by
  ext k; simp only [came, Finset.mem_filter, Finset.mem_univ, true_and]
  exact and_iff_left_of_imp fun ha => (recv_facts z k ha).2

/-- All shares a device holds in the end, but for the local copy's. -/
def held (z : Fin 4) : Finset Piece := Finset.univ.filter fun p => (∀ a, p.1 = some a → ract a z = true) ∧ p ≠ (none, 4)
/-- At the end, a share that is held is at hand or was lent on a lane. -/
theorem held_eq (z : Fin 4) : held z = hand z END ∪ (gone z END).image (lent · z) := by
  ext p
  simp only [held, hand, came_end, gone_end, Finset.mem_filter, Finset.mem_univ, true_and, Finset.mem_union, Finset.mem_image]
  constructor
  · rintro ⟨hp, hq⟩
    by_cases h : ∃ k, act k z = true ∧ lent k z = p
    · exact .inr h
    · exact .inl ⟨hp, hq, fun k ha hl => absurd ⟨k, ha, hl⟩ h⟩
  · rintro (⟨hp, hq, -⟩ | ⟨k, ha, rfl⟩)
    · exact ⟨hp, hq⟩
    · refine ⟨fun a h => ?_, lent_ne k z⟩
      have f := (send_facts z k ha).2.2.2.2
      rw [show via k z = some a from h, Option.all_some, Bool.and_eq_true] at f
      exact f.1
/-- A share at hand at the end wasn't lent. -/
theorem held_disjoint (z : Fin 4) : Disjoint (hand z END) ((gone z END).image (lent · z)) := by
  rw [Finset.disjoint_left]
  simp only [hand, gone_end, Finset.mem_filter, Finset.mem_univ, true_and, Finset.mem_image, not_exists, not_and]
  rintro p ⟨-, -, h⟩ k ha hl
  have := h k ha hl
  have := (lt_tW ha).trans (send_facts z k ha).2.2.2.1
  omega
/-- With the local copy's share, those held are all shares of the device's own block and of those that arrived. -/
theorem held_insert (z : Fin 4) : insert ((none, 4) : Piece) (held z) = row none ∪ (came z END).biUnion fun k => row (some k) := by
  ext ⟨a, j⟩
  simp only [held, came_end, Finset.mem_insert, Finset.mem_filter, Finset.mem_univ, true_and, Finset.mem_union, mem_row, Finset.mem_biUnion]
  cases a with
  | none => by_cases hj : j = 4 <;> simp [hj]
  | some a => simp

/-! ## The order of the waits -/

/-- The rank of the arrival on a lane at a device of plane `z`. -/
def lvR (k : Lane) (z : Fin 4) : ℕ :=
  if k.val < 4 then z.val + 1 - k.val else if k.val < 8 then k.val - 3 - z.val else 10 + (k.val - 8) % 4
/-- The rank of the arrival that a device of plane `z` causes by sending on a lane. -/
def lvS (k : Lane) (z : Fin 4) : ℕ :=
  if k.val < 4 then z.val + 2 - k.val else if k.val < 8 then k.val - 2 - z.val else 10 + (k.val - 8) % 4
/-- The rank of an arrival is the same seen from the device that causes it. -/
theorem lvR_tgt : ∀ (k : Lane) (c : Fin 32), act k (zOf c) = true → lvR k (zOf (tgt (grp k) c)) = lvS k (zOf c) := by decide +kernel
/-- Arrivals rank above the barrier. -/
theorem lvS_gt : ∀ (k : Lane) (z : Fin 4), act k z = true → 1 < lvS k z := by decide +kernel
/-- What is sent no earlier than an arrival is waited for ranks above that arrival. -/
theorem lv_facts : ∀ (z : Fin 4) (k : Lane), ract k z = true → ∀ k' : Lane, act k' z = true → tR z k ≤ tS z k' → lvR k z < lvS k' z := by
  decide +kernel
/-- An arrival that is waited for ranks below all those still to be caused. -/
theorem lv_lt {k' : Lane} (e : ev z n = rcv k.val) (h : k' ∈ unsent z n) : lvR k z < lvS k' z := by
  have hk := rcv_at e
  simp only [unsent, Finset.mem_filter, Finset.mem_univ, true_and] at h
  exact lv_facts z k hk.1 k' h.1 (by omega)

/-! ## The barrier -/

/-- The signal `s` of a device goes to a device's barrier, for a group of that device's lanes: to the next place, to the
    previous one, to the plane above (a device at the top instead pays for its own missing lanes), to the plane below. -/
def pays (c : Fin 32) (s : Fin 4) : Fin 32 × Fin 4 :=
  if s = 0 then (tgt 0 c, 1) else if s = 1 then (tgt 1 c, 0)
  else if s = 2 then (if (zOf c).val < 3 then (tgt 2 c, 3) else (c, 2))
  else (if 0 < (zOf c).val then (tgt 3 c, 2) else (c, 3))
/-- The signal that pays for a group of lanes at a device. -/
def paid (c : Fin 32) (j : Fin 4) : Fin 32 × Fin 4 :=
  if j = 1 then (tgt 1 c, 0) else if j = 0 then (tgt 0 c, 1)
  else if j = 3 then (if 0 < (zOf c).val then (tgt 3 c, 2) else (c, 3))
  else (if (zOf c).val < 3 then (tgt 2 c, 3) else (c, 2))
/-- The signal that pays for what a signal pays for is that signal, -/
theorem paid_pays : ∀ (c : Fin 32) (s : Fin 4), paid (pays c s).1 (pays c s).2 = (c, s) := by decide +kernel
/-- and the other way round. -/
theorem pays_paid : ∀ (c : Fin 32) (j : Fin 4), pays (paid c j).1 (paid c j).2 = (c, j) := by decide +kernel
/-- Signals and what they pay for, one to one. -/
def payEquiv : Fin 32 × Fin 4 ≃ Fin 32 × Fin 4 where
  toFun p := pays p.1 p.2
  invFun p := paid p.1 p.2
  left_inv p := paid_pays p.1 p.2
  right_inv p := pays_paid p.1 p.2

/-- The active lanes of a group. -/
def lanes (c : Fin 32) (j : Fin 4) : Finset Lane := Finset.univ.filter fun k => act k (zOf c) = true ∧ grp k = j
/-- A device's signals pay for exactly the lanes it receives on. -/
theorem lanes_pays : ∀ (c : Fin 32), (Finset.univ.filter fun k : Lane => ract k (zOf c) = true)
    = Finset.univ.biUnion fun s : Fin 4 => lanes (pays c s).1 (pays c s).2 := by decide +kernel
/-- The lanes that a device's signal pays for lead to that device. -/
theorem lanes_tgt : ∀ (c : Fin 32) (s : Fin 4) (k : Lane), k ∈ lanes (pays c s).1 (pays c s).2 → tgt (grp k) (pays c s).1 = c := by decide +kernel
/-- Different signals of a device pay for different lanes. -/
theorem lanes_disj : ∀ (c : Fin 32) (s s' : Fin 4), s ≠ s' → Disjoint (lanes (pays c s).1 (pays c s).2) (lanes (pays c s').1 (pays c s').2) := by
  intro c s s' h
  rw [Finset.disjoint_left]
  intro k hk hk'
  have e : (pays c s).1 = (pays c s').1 := by
    have a := lanes_tgt c s k hk; have b := lanes_tgt c s' k hk'
    rw [← frm_tgt (grp k) (pays c s).1, a, ← frm_tgt (grp k) (pays c s').1, b]
  simp only [lanes, Finset.mem_filter] at hk hk'
  have e' : pays c s = pays c s' := Prod.ext e (hk.2.2.symm.trans hk'.2.2)
  exact h (congrArg Prod.snd (payEquiv.injective (a₁ := (c, s)) (a₂ := (c, s')) e'))
/-- A device's active lanes are those of its four groups. -/
theorem lanes_all (c : Fin 32) : (Finset.univ.filter fun k : Lane => act k (zOf c) = true) = Finset.univ.biUnion fun j : Fin 4 => lanes c j := by
  ext k; simp [lanes]
/-- Different groups have different lanes. -/
theorem lanes_disj' (c : Fin 32) (j j' : Fin 4) (h : j ≠ j') : Disjoint (lanes c j) (lanes c j') := by
  rw [Finset.disjoint_left]
  intro k hk hk'
  simp only [lanes, Finset.mem_filter] at hk hk'
  exact h (hk.2.2.symm.trans hk'.2.2)

end Cert.Plan
-- ==== Proof.KernelIdeal.Sched.lean ====
/-
  The all-gather's protocol over the kernel's own memory and semaphores: the cells, what a device's signals and copies hand
  over at each of them, what each device owes at the start, and the ranks that order the waits.

  Every cell has one round. A barrier cell is paid by four signals of one unit; each hands over landing blocks at the
  signalling device. A lane's receive cell is paid by the copy's arrival, which hands over the landed block; its send cell by
  the copy's departure, which gives the lent share of the source back.
-/
module

public import proofs.«01_k».proof.Proof.Gen.KernelIdeal
public import proofs.«01_k».proof.Proof.Sets
public import Idealize.ShloMosaic.Lib.Pipeline.Launch
public import Idealize.ShloMosaic.Lib.Pipeline.Kit
public import Idealize.ShloMosaic.Lib.ShareLeaves
public import Idealize.ShloMosaic.Lib.Pipeline.ValueKit.Geometry
public import Idealize.ShloMosaic.Lib.Tactic

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-! ## The resource algebra -/

/-- The protocol's own ghost state: rounds with the duties `0 .. 3`; -/
abbrev UB : Type := URounds (GSem nD τ sig) (Fin 4)
/-- with the pipeline's beside it. -/
abbrev UU : Type := UR sig nD τ × UB

local notation "𝕄" => MT nD τ sig Unit (Elt F) ℕ UU ℕ

/-- Where the pipeline's ghost state lies, -/
abbrev EP : Emb (UR sig nD τ) (MT nD τ sig Unit (Elt F) ℕ UU ℕ) := embL
/-- and where the protocol's lies. -/
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Memory: the argument's staging buffer and the blocks of the gathered array -/

/-- The argument of a device, staged. -/
abbrev xM : Memref sig .tc .vmem S2048x512 .f32 := Memref.whole cc0_stg0_0

/-- A block lies inside the gathered array. -/
theorem blk_inb (b : Fin 32) : ∀ a, (![2048 * b.val, 0] : Fin 2 → ℕ) a + S2048x512.size a ≤ S65536x512.size a :=
  Rect.inb₂ (by show 2048 * b.val + 2048 ≤ 65536; omega) (by show 0 + 512 ≤ 512; omega)
/-- Block `b` of the gathered array: device `b`'s rows. -/
abbrev blk (b : Fin 32) : Memref sig .tc .hbm S2048x512 .f32 :=
  (Memref.whole main_v1).slice (Rect.unit (s := S65536x512) ![2048 * b.val, 0] S2048x512.size (blk_inb b)) (fun _ => rfl)

/-- A slice of the gathered array at a block's offsets is the block. -/
theorem slice_eq_blk (b : Fin 32) (off : Fin 2 → ℕ) (h : off = ![2048 * b.val, 0]) (p) (hs) :
    (Memref.whole main_v1 : Memref sig .tc .hbm S65536x512 .f32).slice (Rect.unit (s := S65536x512) off S2048x512.size p) hs = blk b := by
  subst h; rfl

/-- The rows of a block. -/
theorem mem_blk (b : Fin 32) (i : S65536x512.Idx) :
    i ∈ (blk b).view.set ↔ 2048 * b.val ≤ (i 0).val ∧ (i 0).val < 2048 * b.val + 2048 := by
  refine (ValueKit.mem_set_slice_whole_iff main_v1 _ i (LoadRect.mem_set _)).trans ?_
  constructor
  · intro h
    obtain ⟨j, hj, e⟩ := h 0
    replace e : (i 0).val = 2048 * b.val + 1 * j := e
    replace hj : j < 2048 := hj
    omega
  · intro h a
    fin_cases a
    · exact ⟨(i 0).val - 2048 * b.val, (by show _ < 2048; omega), (by show (i 0).val = 2048 * b.val + 1 * _; omega)⟩
    · exact ⟨(i 1).val, (i 1).isLt, (by show (i 1).val = 0 + 1 * _; omega)⟩

/-- Blocks do not overlap, -/
theorem blk_disj (b b' : Fin 32) (h : b ≠ b') : Disjoint (blk b).view.set (blk b').view.set := by
  rw [Finset.disjoint_left]
  intro i hi hi'
  rw [mem_blk] at hi hi'
  exact h (Fin.ext (by omega))
/-- and together are the whole array. -/
theorem blk_all : (Finset.univ.biUnion fun b : Fin 32 => (blk b).view.set) = (Finset.univ : Finset S65536x512.Idx) := by
  ext i
  have hi : (i 0).val < 65536 := (i 0).isLt
  refine iff_of_true (Finset.mem_biUnion.mpr ⟨⟨(i 0).val / 2048, by omega⟩, Finset.mem_univ _, (mem_blk _ _).mpr ?_⟩) (Finset.mem_univ _)
  show 2048 * ((i 0).val / 2048) ≤ _ ∧ _ < 2048 * ((i 0).val / 2048) + 2048
  omega

/-- The argument of device `b`. -/
def xs (b : Dev nD) : (cc0_stg0_0 : Ref sig .tc).ty.Contents (Elt F) :=
  (win0_0.blk (0 : Fin 1)).view.read (Elt F) ((s₀ m ρ).mem ((b : Thread nD τ).loc main_arg0))

set_option backward.proofsInPublic true in
/-- The gathered array: all devices' arguments, one after the other. -/
def G : (main_v1 : Ref sig .tc).ty.Contents (Elt F) := fun i =>
  xs m ρ ⟨(i (0 : Fin 2)).val / 2048, Nat.div_lt_of_lt_mul (i (0 : Fin 2)).isLt⟩
    (Shape.pair (d := ![2048, 512]) ⟨(i (0 : Fin 2)).val % 2048, Nat.mod_lt _ (by decide)⟩ ⟨(i (1 : Fin 2)).val, (i (1 : Fin 2)).isLt⟩)

omit [FloatOps F] in
/-- Block `b` of the gathered array reads as device `b`'s argument. -/
theorem read_blk (b : Fin 32) : (blk b).view.read (Elt F) (G m ρ) = xs m ρ b := by
  funext x
  have hx : (x (0 : Fin 2)).val < 2048 := (x (0 : Fin 2)).isLt
  show G m ρ ((blk b).view.emb x) = _
  have h0 : (((blk b).view.emb x) (0 : Fin 2)).val = 2048 * b.val + 1 * (x (0 : Fin 2)).val := rfl
  have h1 : (((blk b).view.emb x) (1 : Fin 2)).val = 0 + 1 * (x (1 : Fin 2)).val := rfl
  unfold G
  have e : (⟨(((blk b).view.emb x) (0 : Fin 2)).val / 2048, Nat.div_lt_of_lt_mul (((blk b).view.emb x) (0 : Fin 2)).isLt⟩ : Fin 32) = b :=
    Fin.ext (by show (((blk b).view.emb x) (0 : Fin 2)).val / 2048 = b.val; omega)
  refine (congrFun (congrArg (xs m ρ) e) _).trans (congrArg (xs m ρ b) ?_)
  funext a
  fin_cases a
  · exact Fin.ext (by show (((blk b).view.emb x) (0 : Fin 2)).val % 2048 = (x (0 : Fin 2)).val; omega)
  · exact Fin.ext (by show (((blk b).view.emb x) (1 : Fin 2)).val = (x (1 : Fin 2)).val; omega)

omit [FloatOps F] in
/-- What a copy of device `b`'s argument leaves in block `b`, whatever was there. -/
theorem write_blk (b : Fin 32) (fd : (main_v1 : Ref sig .tc).ty.Contents (Elt F)) (w : S2048x512.Idx → Elt F .f32) (hw : w = xs m ρ b) :
    ∀ i ∈ (blk b).view.set, (blk b).view.write (Elt F) fd w Finset.univ i = G m ρ i := by
  intro i hi
  rw [hw, ← read_blk m ρ b, View.write_read_eq_piecewise, View.setOn_univ]
  exact Finset.piecewise_eq_of_mem _ _ _ hi

/-- The units that one copy of a block is worth at a semaphore. -/
def N : ℕ := (blk 0).view.dmaCredit
/-- They are some. -/
theorem N_pos : 0 < N := View.dmaCredit_pos _ (by decide)
/-- Every block is worth the same. -/
theorem blk_credit (b : Fin 32) : (blk b).view.dmaCredit = N := rfl

/-! ## The semaphores and their cells -/

/-- What a semaphore is for. -/
inductive Role | idle | bar | cpy | snd (k : Lane) | rcv (k : Lane)
  deriving DecidableEq

/-- The runtime's barrier semaphore. -/
abbrev barS : Sem sig := (SemArray.scalar (sig.barrier 0 rfl) : Sems sig S_).sem
set_option backward.proofsInPublic true in
/-- The semaphore of the local copy, -/
def csem : DmaSem sig := ⟨1, by decide⟩
set_option backward.proofsInPublic true in
/-- of a lane's departure, -/
def ssem (k : Lane) : DmaSem sig :=
  ⟨if k.val < 4 then 2 + k.val else if k.val < 8 then k.val + 6 else if k.val < 24 then k.val + 10 else k.val + 26, by
    show _ < 82; have := k.isLt; split_ifs <;> omega⟩
set_option backward.proofsInPublic true in
/-- of a lane's arrival. -/
def rsem (k : Lane) : DmaSem sig :=
  ⟨if k.val < 4 then k.val + 6 else if k.val < 8 then k.val + 10 else if k.val < 24 then k.val + 26 else k.val + 42, by
    show _ < 82; have := k.isLt; split_ifs <;> omega⟩

/-- What the semaphore of a number is for. -/
def roleOf (n : ℕ) : Role :=
  if n = 0 then .idle else if n = 1 then .cpy else if n < 6 then .snd (Fin.ofNat 40 (n - 2)) else if n < 10 then .rcv (Fin.ofNat 40 (n - 6))
  else if n < 14 then .snd (Fin.ofNat 40 (n - 6)) else if n < 18 then .rcv (Fin.ofNat 40 (n - 10))
  else if n < 34 then .snd (Fin.ofNat 40 (n - 10)) else if n < 50 then .rcv (Fin.ofNat 40 (n - 26))
  else if n < 66 then .snd (Fin.ofNat 40 (n - 26)) else .rcv (Fin.ofNat 40 (n - 42))
/-- What a semaphore is for. -/
def role : SemLoc sig → Role
  | .reg _ => .bar
  | .dma q => roleOf q.val

/-- The roles of the barrier semaphore, -/
theorem role_bar : role (.reg barS) = .bar := rfl
/-- of the local copy's, -/
theorem role_cpy : role (.dma csem) = .cpy := rfl
/-- of a lane's departure, -/
theorem role_snd (k : Lane) : role (.dma (ssem k)) = .snd k := by revert k; decide +kernel
/-- of a lane's arrival. -/
theorem role_rcv (k : Lane) : role (.dma (rsem k)) = .rcv k := by revert k; decide +kernel

/-- The kernel's own semaphores: the local copy's, the departures' and the arrivals'. -/
abbrev Own : Type := Unit ⊕ (Lane ⊕ Lane)
/-- The semaphore of each. -/
def osem : Own → SemLoc sig
  | .inl _ => .dma csem
  | .inr (.inl k) => .dma (ssem k)
  | .inr (.inr k) => .dma (rsem k)
/-- The barrier semaphore and the kernel's own. -/
abbrev Cel : Type := Unit ⊕ Own
/-- The semaphore of each. -/
def isem : Cel → SemLoc sig
  | .inl _ => .reg barS
  | .inr o => osem o
/-- Distinct names are distinct semaphores. -/
theorem isem_inj : Function.Injective isem := by
  have h : ∀ a b : Cel, role (isem a) = role (isem b) → a = b := by
    rintro (_ | _ | k | k) (_ | _ | k' | k') <;> simp only [isem, osem, role_bar, role_cpy, role_snd, role_rcv] <;>
      first | trivial | (intro _; rfl) | (intro h; cases h; rfl) | (intro h; cases h)
  exact fun a b e => h a b (congrArg role e)

/-- The cell of a device's barrier semaphore, -/
abbrev barCell (c : Dev nD) : GSem nD τ sig := ((c : Thread nD τ), .reg barS)
/-- of its local copy, -/
abbrev cCell (c : Dev nD) : GSem nD τ sig := ((c : Thread nD τ), .dma csem)
/-- of its departures on a lane, -/
abbrev sCell (k : Lane) (c : Dev nD) : GSem nD τ sig := ((c : Thread nD τ), .dma (ssem k))
/-- of its arrivals on a lane. -/
abbrev rCell (k : Lane) (c : Dev nD) : GSem nD τ sig := ((c : Thread nD τ), .dma (rsem k))
/-- All cells of all devices. -/
abbrev kcell (p : Dev nD × Cel) : GSem nD τ sig := ((p.1 : Thread nD τ), isem p.2)

/-! ## What is handed over -/

/-- A device's landing block on a lane, with any contents. -/
def land (k : Lane) (e : Dev nD) : sProp 𝕄 :=
  iprop(∃ f : Buf (Elt F) ((blk (rorg k e)).view.loc (e : Thread nD τ)), (blk (rorg k e)).view.loc (e : Thread nD τ) ↦[(blk (rorg k e)).view.set]{fullShare} f)
/-- A block of a device's gathered array as it will be in the end, held at a share. -/
def done (c : Dev nD) (b : Fin 32) (q : PosShare TreeShare) : sProp 𝕄 :=
  (blk b).view.loc (c : Thread nD τ) ↦[(blk b).view.set]{q} (G m ρ : Buf (Elt F) ((blk b).view.loc (c : Thread nD τ)))
/-- A device's own argument, held at a share. -/
def arg (c : Dev nD) (q : PosShare TreeShare) : sProp 𝕄 :=
  xM.view.loc (c : Thread nD τ) ↦[xM.view.set]{q} (xs m ρ c : Buf (Elt F) (xM.view.loc (c : Thread nD τ)))
/-- One of eight shares of a device's own argument or of the block that came on a lane. -/
def piece (c : Dev nD) (p : Piece) : sProp 𝕄 :=
  match p.1 with
  | none => arg m ρ c (leaf 3 fullShare p.2)
  | some k => done m ρ c (rorg k c) (leaf 3 fullShare p.2)

/-- What the four signals to a barrier cell hand over: landing blocks. -/
def barPay (c : Dev nD) (j : Fin 4) : sProp 𝕄 := bigSep (lanes c j) fun k => land k (tgt (grp k) c)
/-- What the local copy hands back. -/
def cpyPay (c : Dev nD) : sProp 𝕄 := iprop(done m ρ c c fullShare ∗ piece m ρ c (none, 4))

omit [FloatOps F] in
/-- What the schedule hands over may be kept in an invariant: landing blocks, -/
instance land_storable (k : Lane) (e : Dev nD) : BI.Storable (upEmb : UEmb _ 𝕄) (land (F := F) k e) := by unfold land; infer_instance
omit [FloatOps F] in
/-- blocks that are written, -/
instance done_storable (c : Dev nD) (b : Fin 32) (q) : BI.Storable (upEmb : UEmb _ 𝕄) (done (F := F) m ρ c b q) := by unfold done; infer_instance
omit [FloatOps F] in
/-- the staged argument, -/
instance arg_storable (c : Dev nD) (q) : BI.Storable (upEmb : UEmb _ 𝕄) (arg (F := F) m ρ c q) := by unfold arg; infer_instance
omit [FloatOps F] in
/-- shares of blocks, -/
instance piece_storable (c : Dev nD) (p : Piece) : BI.Storable (upEmb : UEmb _ 𝕄) (piece (F := F) m ρ c p) := by
  unfold piece; split <;> infer_instance
omit [FloatOps F] in
/-- what the signals to a barrier hand over, -/
instance barPay_storable (c : Dev nD) (j : Fin 4) : BI.Storable (upEmb : UEmb _ 𝕄) (barPay (F := F) c j) := by unfold barPay; infer_instance
omit [FloatOps F] in
/-- what the local copy hands back, -/
instance cpyPay_storable (c : Dev nD) : BI.Storable (upEmb : UEmb _ 𝕄) (cpyPay (F := F) m ρ c) := by unfold cpyPay; infer_instance

/-! ## The schedule -/

/-- The duties of a device's cell. -/
def dutiesOf (c : Dev nD) : Role → Finset (Fin 4)
  | .idle => ∅
  | .bar => Finset.univ
  | .cpy => {0}
  | .snd k => if act k (zOf c) = true then {0} else ∅
  | .rcv k => if ract k (zOf c) = true then {0} else ∅
/-- What one duty of a cell is worth. -/
def amountOf : Role → ℕ
  | .bar => 1
  | _ => N
/-- What one duty of a cell hands over. -/
def payOf (c : Dev nD) (d : Fin 4) : Role → sProp 𝕄
  | .idle => iprop(emp)
  | .bar => barPay c d
  | .cpy => cpyPay m ρ c
  | .snd k => piece m ρ c (lent k (zOf c))
  | .rcv k => done m ρ c (rorg k c) fullShare
/-- A duty is worth something. -/
theorem amountOf_pos (r : Role) : 0 < amountOf r := by
  cases r <;> first | exact N_pos | exact Nat.one_pos

/-- One round at every cell. -/
def sched : Rounds.Schedule (GSem nD τ sig) (Fin 4) 𝕄 where
  duties g r := if r = 0 ∧ g.1.2 = .tc then dutiesOf g.1.1 (role g.2) else ∅
  unitless _ := False
  amount g _ _ := amountOf (role g.2)
  payload g _ d := payOf m ρ g.1.1 d (role g.2)
  amount_pos g _ _ _ := amountOf_pos _

/-- and so whatever a duty of a cell hands over. -/
instance sched_storable (g : GSem nD τ sig) (r : ℕ) (d : Fin 4) : BI.Storable (upEmb : UEmb _ 𝕄) ((sched (F := F) m ρ).payload g r d) := by
  show BI.Storable upEmb (payOf m ρ g.1.1 d (role g.2))
  unfold payOf
  split <;> infer_instance

section Sched
variable (c : Dev nD) (k : Lane)

omit [FloatOps F] in
/-- A device's cell has the duties of its role in its round, -/
theorem duties_tc (sm : SemLoc sig) : (sched (F := F) m ρ).duties ((c : Thread nD τ), sm) 0 = dutiesOf c (role sm) := by
  dsimp only [sched]; exact if_pos ⟨rfl, rfl⟩
omit [FloatOps F] in
/-- and none later. -/
theorem duties_later (g : GSem nD τ sig) : ∀ r, 1 ≤ r → (sched (F := F) m ρ).duties g r = ∅ :=
  fun r hr => by dsimp only [sched]; exact if_neg fun h => by omega

omit [FloatOps F] in
/-- The duty of a departure that is made, -/
theorem duties_snd (h : act k (zOf c) = true) : (sched (F := F) m ρ).duties (sCell k c) 0 = {0} := by
  rw [duties_tc, role_snd]; exact if_pos h
omit [FloatOps F] in
/-- of an arrival that is due, -/
theorem duties_rcv (h : ract k (zOf c) = true) : (sched (F := F) m ρ).duties (rCell k c) 0 = {0} := by
  rw [duties_tc, role_rcv]; exact if_pos h
omit [FloatOps F] in
/-- of the local copy, -/
theorem duties_cpy : (sched (F := F) m ρ).duties (cCell c) 0 = {0} := by rw [duties_tc, role_cpy]; rfl
omit [FloatOps F] in
/-- and of the barrier. -/
theorem duties_bar : (sched (F := F) m ρ).duties (barCell c) 0 = Finset.univ := by rw [duties_tc, role_bar]; rfl
omit [FloatOps F] in
/-- A lane that is not sent on has none, -/
theorem duties_snd_none (h : act k (zOf c) = false) : ∀ r, 0 ≤ r → (sched (F := F) m ρ).duties (sCell k c) r = ∅ := fun r _ => by
  cases r with
  | zero => rw [duties_tc, role_snd]; exact if_neg (by rw [h]; exact Bool.false_ne_true)
  | succ r => exact duties_later m ρ _ _ (Nat.succ_pos r)
omit [FloatOps F] in
/-- nor has one that nothing arrives on. -/
theorem duties_rcv_none (h : ract k (zOf c) = false) : ∀ r, 0 ≤ r → (sched (F := F) m ρ).duties (rCell k c) r = ∅ := fun r _ => by
  cases r with
  | zero => rw [duties_tc, role_rcv]; exact if_neg (by rw [h]; exact Bool.false_ne_true)
  | succ r => exact duties_later m ρ _ _ (Nat.succ_pos r)

omit [FloatOps F] in
/-- What each kind of duty is worth: a departure, -/
theorem amount_snd (d : Fin 4) : (sched (F := F) m ρ).amount (sCell k c) 0 d = N := by dsimp only [sched]; rw [role_snd]; rfl
omit [FloatOps F] in
/-- an arrival, -/
theorem amount_rcv (d : Fin 4) : (sched (F := F) m ρ).amount (rCell k c) 0 d = N := by dsimp only [sched]; rw [role_rcv]; rfl
omit [FloatOps F] in
/-- the local copy, -/
theorem amount_cpy (d : Fin 4) : (sched (F := F) m ρ).amount (cCell c) 0 d = N := by dsimp only [sched]; rw [role_cpy]; rfl
omit [FloatOps F] in
/-- a signal. -/
theorem amount_bar (d : Fin 4) : (sched (F := F) m ρ).amount (barCell c) 0 d = 1 := by dsimp only [sched]; rw [role_bar]; rfl

omit [FloatOps F] in
/-- What each kind hands over: a departure, -/
theorem payload_snd (d : Fin 4) : (sched (F := F) m ρ).payload (sCell k c) 0 d = piece m ρ c (lent k (zOf c)) := by
  dsimp only [sched]; rw [role_snd]; rfl
omit [FloatOps F] in
/-- an arrival, -/
theorem payload_rcv (d : Fin 4) : (sched (F := F) m ρ).payload (rCell k c) 0 d = done m ρ c (rorg k c) fullShare := by
  dsimp only [sched]; rw [role_rcv]; rfl
omit [FloatOps F] in
/-- the local copy, -/
theorem payload_cpy (d : Fin 4) : (sched (F := F) m ρ).payload (cCell c) 0 d = cpyPay m ρ c := by dsimp only [sched]; rw [role_cpy]; rfl
omit [FloatOps F] in
/-- a signal. -/
theorem payload_bar (d : Fin 4) : (sched (F := F) m ρ).payload (barCell c) 0 d = barPay c d := by dsimp only [sched]; rw [role_bar]; rfl

omit [FloatOps F] in
/-- What is waited for: a departure, -/
theorem expect_snd (h : act k (zOf c) = true) : (sched (F := F) m ρ).expect (sCell k c) 0 = N := by
  unfold Schedule.expect Schedule.amountOf; rw [duties_snd m ρ c k h, Finset.sum_singleton, amount_snd]
omit [FloatOps F] in
/-- an arrival, -/
theorem expect_rcv (h : ract k (zOf c) = true) : (sched (F := F) m ρ).expect (rCell k c) 0 = N := by
  unfold Schedule.expect Schedule.amountOf; rw [duties_rcv m ρ c k h, Finset.sum_singleton, amount_rcv]
omit [FloatOps F] in
/-- the local copy, -/
theorem expect_cpy : (sched (F := F) m ρ).expect (cCell c) 0 = N := by
  unfold Schedule.expect Schedule.amountOf; rw [duties_cpy, Finset.sum_singleton, amount_cpy]
omit [FloatOps F] in
/-- the four signals. -/
theorem expect_bar : (sched (F := F) m ρ).expect (barCell c) 0 = 4 := by
  unfold Schedule.expect Schedule.amountOf
  rw [duties_bar, Finset.sum_congr rfl fun d _ => amount_bar m ρ c d]; rfl

omit [FloatOps F] in
/-- What a finished wait yields: of a departure, -/
theorem rest_snd (h : act k (zOf c) = true) :
    bigSep ((sched (F := F) m ρ).duties (sCell k c) 0 \ ∅) (fun d => (sched (F := F) m ρ).payload (sCell k c) 0 d) = piece m ρ c (lent k (zOf c)) := by
  rw [Finset.sdiff_empty, duties_snd m ρ c k h, bigSep_singleton, payload_snd]
omit [FloatOps F] in
/-- of an arrival, -/
theorem rest_rcv (h : ract k (zOf c) = true) :
    bigSep ((sched (F := F) m ρ).duties (rCell k c) 0 \ ∅) (fun d => (sched (F := F) m ρ).payload (rCell k c) 0 d) = done m ρ c (rorg k c) fullShare := by
  rw [Finset.sdiff_empty, duties_rcv m ρ c k h, bigSep_singleton, payload_rcv]
omit [FloatOps F] in
/-- of the local copy, -/
theorem rest_cpy : bigSep ((sched (F := F) m ρ).duties (cCell c) 0 \ ∅) (fun d => (sched (F := F) m ρ).payload (cCell c) 0 d) = cpyPay m ρ c := by
  rw [Finset.sdiff_empty, duties_cpy, bigSep_singleton, payload_cpy]
omit [FloatOps F] in
/-- of the barrier: the landing blocks of all lanes that are sent on. -/
theorem rest_bar : bigSep ((sched (F := F) m ρ).duties (barCell c) 0 \ ∅) (fun d => (sched (F := F) m ρ).payload (barCell c) 0 d)
    = bigSep (unsent (zOf c) 0) fun k => land k (tgt (grp k) c) := by
  rw [Finset.sdiff_empty, duties_bar, unsent_zero, lanes_all, BI.bigSep_biUnion_eq _ _ _ fun j _ j' _ h => lanes_disj' c j j' h]
  exact bigSep_congr fun d _ => payload_bar m ρ c d

end Sched

/-! ## What each device owes; the ranks -/

/-- What a device owes for the lanes of a set: the arrivals at the devices they lead to. -/
def ows (c : Dev nD) (U : Finset Lane) : CellTallies nD τ sig Unit := ∑ k ∈ U, tallyAt (rCell k (tgt (grp k) c)) () N
/-- One signal. -/
def bow (c : Dev nD) (s : Fin 4) : CellTallies nD τ sig Unit := tallyAt (barCell (pays c s).1) () 1
/-- What a device owes at launch: every arrival it is to cause and the four signals. -/
def O₀ (c : Dev nD) : CellTallies nD τ sig Unit := ows c (unsent (zOf c) 0) + bow c 3 + bow c 2 + bow c 1 + bow c 0

/-- Sending on a lane pays one arrival. -/
theorem ows_insert (c : Dev nD) {k : Lane} {U : Finset Lane} (h : k ∉ U) : ows c (insert k U) = ows c U + tallyAt (rCell k (tgt (grp k) c)) () N := by
  unfold ows; rw [Finset.sum_insert h, add_comm]

/-- Each device's cells are ranked, -/
def L (g : GSem nD τ sig) : Finset Unit := if g.1.2 = .tc then {()} else ∅
/-- arrivals above the barrier and the barrier above the rest. -/
def lv (g : GSem nD τ sig) (_ : Unit) : ℕ :=
  match role g.2 with
  | .bar => 1
  | .rcv k => lvR k (zOf g.1.1)
  | _ => 0

/-- Cells of other cores have no rank, -/
theorem L_of_ne (g : GSem nD τ sig) (h : g.1.2 ≠ .tc) : L g = ∅ := if_neg h
/-- and each cell of a device has one. -/
theorem L_tc (c : Dev nD) (sm : SemLoc sig) : L ((c : Thread nD τ), sm) = {()} := if_pos rfl
/-- The rank of a barrier cell, -/
theorem lv_bar (c : Dev nD) : lv (barCell c) () = 1 := by unfold lv; rw [role_bar]
/-- of an arrival, -/
theorem lv_rcv (k : Lane) (c : Dev nD) : lv (rCell k c) () = lvR k (zOf c) := by unfold lv; rw [role_rcv]
/-- of an arrival a device is to cause. -/
theorem lv_tgt {k : Lane} {c : Dev nD} (h : act k (zOf c) = true) : lv (rCell k (tgt (grp k) c)) () = lvS k (zOf c) := by
  rw [lv_rcv]; exact lvR_tgt k c h

/-- What is owed for lanes is arrivals of these. -/
theorem ows_pos {c : Dev nD} {U : Finset Lane} {g : GSem nD τ sig} {u : Unit} (h : 0 < ows c U g u) : ∃ k ∈ U, g = rCell k (tgt (grp k) c) := by
  by_contra hn
  push Not at hn
  have : ∀ V : Finset Lane, (∀ k ∈ V, g ≠ rCell k (tgt (grp k) c)) → ows c V g u = 0 := by
    intro V
    induction V using Finset.induction_on with
    | empty => intro _; rfl
    | insert k V hk ih =>
      intro hV
      rw [ows_insert c hk, Pi.add_apply, Finsupp.add_apply, ih fun k' hk' => hV k' (Finset.mem_insert_of_mem hk'), tallyAt_apply,
        if_neg fun e => hV k (Finset.mem_insert_self _ _) e.1]
  exact absurd (this U hn) (Nat.pos_iff_ne_zero.mp h)
/-- What is owed at launch is arrivals and signals. -/
theorem O₀_pos {c : Dev nD} {g : GSem nD τ sig} {u : Unit} (h : 0 < O₀ c g u) :
    (∃ k ∈ unsent (zOf c) 0, g = rCell k (tgt (grp k) c)) ∨ ∃ s, g = barCell (pays c s).1 := by
  by_contra hn
  rw [not_or] at hn
  have h0 : ows c (unsent (zOf c) 0) g u = 0 := Nat.eq_zero_of_not_pos fun h => hn.1 (ows_pos h)
  have hb : ∀ s, bow c s g u = 0 := fun s => by
    unfold bow; rw [tallyAt_apply]; exact if_neg fun e => hn.2 ⟨s, e.1⟩
  unfold O₀ at h
  simp only [Pi.add_apply, Finsupp.add_apply, h0, hb, add_zero, lt_irrefl] at h

omit [FloatOps F] in
/-- A wait at a cell that ranks below everything owed is allowed. -/
theorem mayWait (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- An unsent lane is sent on. -/
theorem act_of_unsent {k : Lane} {z : Fin 4} {n : ℕ} (h : k ∈ unsent z n) : act k z = true := by
  simp only [unsent, Finset.mem_filter, Finset.mem_univ, true_and] at h; exact h.1

omit [FloatOps F] in
/-- So is a wait at a cell of rank zero, whatever of the launch's debt is left, -/
theorem mayWait_low (c : Dev nD) (sm : SemLoc sig) (h0 : lv ((c : Thread nD τ), sm) () = 0) (O : CellTallies nD τ sig Unit) (hO : O = O₀ c ∨ O = 0) :
    (levAts L lv : sProp 𝕄) ⊢ MayWait (c : Thread nD τ) sm () O := by
  refine mayWait c sm O fun g u hg => ?_
  rcases hO with rfl | rfl
  · rcases O₀_pos hg with ⟨k, hk, rfl⟩ | ⟨s, rfl⟩
    · refine ⟨rfl, ?_⟩
      rw [h0, lv_tgt (act_of_unsent hk)]
      exact Nat.lt_of_lt_of_le Nat.one_pos (lvS_gt k _ (act_of_unsent hk)).le
    · refine ⟨rfl, ?_⟩
      rw [h0, lv_bar]; exact Nat.one_pos
  · exact absurd hg (Nat.lt_irrefl 0)
omit [FloatOps F] in
/-- the barrier wait once all signals are given, -/
theorem mayWait_bar (c : Dev nD) : (levAts L lv : sProp 𝕄) ⊢ MayWait (c : Thread nD τ) (.reg barS) () (ows c (unsent (zOf c) 0)) := by
  refine mayWait c _ _ fun g u hg => ?_
  obtain ⟨k, hk, rfl⟩ := ows_pos hg
  refine ⟨rfl, ?_⟩
  rw [lv_bar, lv_tgt (act_of_unsent hk)]
  exact lvS_gt k _ (act_of_unsent hk)
omit [FloatOps F] in
/-- and the wait for an arrival in its place in the program. -/
theorem mayWait_rcv (c : Dev nD) {n : ℕ} {k : Lane} (e : ev (zOf c) n = Plan.rcv k.val) :
    (levAts L lv : sProp 𝕄) ⊢ MayWait (c : Thread nD τ) (.dma (rsem k)) () (ows c (unsent (zOf c) n)) := by
  refine mayWait c _ _ fun g u hg => ?_
  obtain ⟨k', hk, rfl⟩ := ows_pos hg
  refine ⟨rfl, ?_⟩
  rw [lv_rcv, lv_tgt (act_of_unsent hk)]
  exact lv_lt e hk

end Cert.KernelIdeal.Gather

end
-- ==== Proof.KernelIdeal.Steps.lean ====
/-
  One step of the kernel at a time. `St K c n` is all that device `c` holds before its step `n`; each kind of step — a send,
  a wait for an arrival or a departure, the local copy and the wait for it, and a step whose condition fails — takes `St K c n`
  to `St K c (n + 1)`.
-/
module

public import proofs.«01_k».proof.Proof.KernelIdeal.Sched

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-- No call needs a measure. -/
abbrev 𝒱₀ : Variants := Variants.none

/-- The weakest precondition of a piece of device `c`'s program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What a device holds between two steps -/

variable (K : Dev nD × Cel → ℕ)

/-- The records of all cells: their invariants, and that their one round has begun. -/
def recs : sProp 𝕄 :=
  bigSep Finset.univ fun p : Dev nD × Cel => iprop(cellInv ER (sched m ρ) (K p) (kcell p) ∗ reached ER (kcell p) 0)
/-- The records may be used again and again. -/
instance recs_persistent : BI.Persistent (recs m ρ K) := by unfold recs; infer_instance
/-- One cell's records. -/
theorem recs_at (p : Dev nD × Cel) : recs m ρ K ⊢ iprop(cellInv ER (sched m ρ) (K p) (kcell p) ∗ reached ER (kcell p) 0) := by
  unfold recs; exact bigSep_elim (Finset.mem_univ p)

/-- The name of the barrier cell among a device's cells, -/
abbrev iB : Cel := .inl ()
/-- of the local copy's, -/
abbrev iC : Cel := .inr (.inl ())
/-- of a departure's, -/
abbrev iS (k : Lane) : Cel := .inr (.inr (.inl k))
/-- of an arrival's. -/
abbrev iR (k : Lane) : Cel := .inr (.inr (.inr k))

/-- For a lane not yet sent on: the right to pay its departure and its arrival, the landing block, the place at the departure's cell. -/
def pend (c : Dev nD) (k : Lane) : sProp 𝕄 :=
  iprop(dutyTok ER (sCell k c) 0 (0 : Fin 4) ∗ dutyTok ER (rCell k (tgt (grp k) c)) 0 (0 : Fin 4) ∗ land k (tgt (grp k) c)
    ∗ atPos ER (sCell k c) 0 (∅ : Finset (Fin 4)) 0)
/-- For an arrival that is due: the credit and the place at its cell. -/
def exp (c : Dev nD) (k : Lane) : sProp 𝕄 :=
  iprop(cred (tallyAt (rCell k c) () N) ∗ atPos ER (rCell k c) 0 (∅ : Finset (Fin 4)) 0)
/-- For a departure to be waited for: the same at its cell. -/
def fly (c : Dev nD) (k : Lane) : sProp 𝕄 :=
  iprop(cred (tallyAt (sCell k c) () N) ∗ atPos ER (sCell k c) 0 (∅ : Finset (Fin 4)) 0)
/-- For a departure that was: the counter at zero and the lent share. -/
def back (c : Dev nD) (k : Lane) : sProp 𝕄 := iprop(semVal (sCell k c) 0 ∗ piece m ρ c (lent k (zOf c)))
/-- For an arrival that was: the counter at zero. -/
def zero (c : Dev nD) (k : Lane) : sProp 𝕄 := semVal (rCell k c) 0

/-- The local copy before it starts, while it is under way and when it has ended. -/
def copying (c : Dev nD) (i : Fin 3) : sProp 𝕄 :=
  if i = 0 then iprop((∃ f : Buf (Elt F) ((blk c).view.loc (c : Thread nD τ)), (blk c).view.loc (c : Thread nD τ) ↦[(blk c).view.set]{fullShare} f)
    ∗ piece m ρ c (none, 4) ∗ dutyTok ER (cCell c) 0 (0 : Fin 4) ∗ atPos ER (cCell c) 0 (∅ : Finset (Fin 4)) 0)
  else if i = 1 then iprop(cred (tallyAt (cCell c) () N) ∗ atPos ER (cCell c) 0 (∅ : Finset (Fin 4)) 0)
  else iprop(semVal (cCell c) 0 ∗ cpyPay m ρ c)

/-- Which of the three it is before step `n`. -/
def phase (n : ℕ) : Fin 3 := if n ≤ 4 then 0 else if n ≤ 119 then 1 else 2
/-- Step `4` starts the copy -/
theorem ev_cpy : ∀ z : Fin 4, ev z 4 = cpy := by decide +kernel
/-- and step `119` waits for it. -/
theorem ev_cwt : ∀ z : Fin 4, ev z 119 = cwt := by decide +kernel
/-- Any other step leaves the copy. -/
theorem phase_succ {z : Fin 4} {n : ℕ} (h : ev z n ≠ cpy) (h' : ev z n ≠ cwt) : phase (n + 1) = phase n := by
  have h4 : n ≠ 4 := fun e => h (e ▸ ev_cpy z)
  have h9 : n ≠ 119 := fun e => h' (e ▸ ev_cwt z)
  unfold phase
  split_ifs <;> first | rfl | omega

/-- What device `c` holds when the lanes stand as `s` says and the copy as `i` says. -/
def Has (c : Dev nD) (s : Now) (i : Fin 3) : sProp 𝕄 :=
  iprop(recs m ρ K ∗ levAts L lv ∗ (∃ W, owes (c : Thread nD τ) (ows c s.unsent) W) ∗ bigSep s.unsent (pend c) ∗ bigSep s.due (exp c)
    ∗ bigSep s.flying (fly c) ∗ bigSep s.gone (back m ρ c) ∗ bigSep s.came (zero c) ∗ bigSep s.hand (piece m ρ c) ∗ copying m ρ c i)
/-- What device `c` holds before step `n`. -/
def St (c : Dev nD) (n : ℕ) : sProp 𝕄 := Has m ρ K c (now (zOf c) n) (phase n)

/-! ## Running a program -/

omit [FloatOps F] in
/-- Two programs, one after the other. -/
theorem seq {F : FTy → Type} [FloatOps F] {c : Dev nD} {α β : Type} {p : Prog (TpuEff nD τ sig (Elt F) Λ₀ .tc) α} {f : α → Prog (TpuEff nD τ sig (Elt F) Λ₀ .tc) β}
    {P R : sProp (MT nD τ sig Unit (Elt F) ℕ UU ℕ)} {Q : β → sProp (MT nD τ sig Unit (Elt F) ℕ UU ℕ)}
    (hp : P ⊢ WP c p (fun _ => R)) (hf : ∀ a, R ⊢ WP c (f a) Q) : P ⊢ WP c (p >>= f) Q := by
  unfold WP
  rw [wp_bind]
  exact hp.trans (wp_mono _ _ _ fun a => hf a)
/-- A program that has ended. -/
theorem stop {c : Dev nD} {α : Type} (a : α) {P : sProp 𝕄} {Q : α → sProp 𝕄} (h : P ⊢ Q a) : P ⊢ WP c (pure a) Q := by
  unfold WP
  show P ⊢ wp frame _ Set.univ (Prog.ret a) Q
  rw [wp_ret]
  exact h.trans fupd_intro

/-- A step whose condition fails changes nothing. -/
theorem skip {c : Dev nD} {n : ℕ} (h : ev (zOf c) n = skp) : St m ρ K c n = St m ρ K c (n + 1) := by
  unfold St
  rw [now_succ (fun k => by rw [h]; unfold skp snd; omega) (fun k => by rw [h]; unfold skp rcv; omega) (fun k => by rw [h]; unfold skp dep; omega),
    phase_succ (z := zOf c) (by rw [h]; decide) (by rw [h]; decide)]

/-- A step under a condition, and then the program `X`. -/
theorem cond {c : Dev nD} (n : ℕ) {b : Prop} [Decidable b] {α : Type} {p : b → Prog (TpuEff nD τ sig (Elt F) Λ₀ .tc) PUnit}
    {X : Prog (TpuEff nD τ sig (Elt F) Λ₀ .tc) α} {Q : α → sProp 𝕄}
    (hb : ∀ h, St m ρ K c n ⊢ WP c (p h) (fun _ => St m ρ K c (n + 1)))
    (hn : ¬ b → ev (zOf c) n = skp) (hX : St m ρ K c (n + 1) ⊢ WP c X Q) :
    St m ρ K c n ⊢ WP c (if h : b then p h >>= fun _ => X else X) Q := by
  by_cases h : b
  · rw [dif_pos h]; exact seq (hb h) fun _ => hX
  · rw [dif_neg h, skip m ρ K (hn h)]; exact hX

/-! ## The steps -/

/-- Every send comes before every wait for a departure. -/
theorem unsent_dep {z : Fin 4} {n : ℕ} {k : Lane} (e : ev z n = dep k.val) : unsent z n = ∅ := by
  have h : ∀ (z : Fin 4) (n : Fin 120), 300 ≤ ev z n → ∀ k : Lane, act k z = true → tS z k < n := by decide +kernel
  have hn : n < 120 := by by_contra hn; rw [ev_end z n (by unfold END; omega)] at e; unfold dep at e; omega
  refine Finset.filter_eq_empty_iff.2 fun k' _ hk => ?_
  have := h z ⟨n, hn⟩ (by show 300 ≤ ev z n; rw [e]; unfold dep; omega) k' hk.1
  simp only at this; omega
/-- So does every send before the wait for the local copy. -/
theorem unsent_cwt : ∀ z : Fin 4, unsent z 119 = ∅ := by decide +kernel
omit [FloatOps F] in
/-- A device that owes nothing may wait for anything. -/
theorem mayWait_none (c : Dev nD) {sm : SemLoc sig} : (levAts L lv : sProp 𝕄) ⊢ MayWait (c : Thread nD τ) sm () (ows c ∅) :=
  mayWait c _ _ fun g u hg => by obtain ⟨k, hk, -⟩ := ows_pos hg; simp at hk

omit [FloatOps F] in
/-- One more lane. -/
theorem put {I : Type} [DecidableEq I] {s : Finset I} {i : I} (h : i ∉ s) {Φ : I → sProp 𝕄} : bigSep (insert i s) Φ = iprop(Φ i ∗ bigSep s Φ) :=
  bigSep_insert h
omit [FloatOps F] in
/-- More lanes. -/
theorem join {I : Type} [DecidableEq I] {s t : Finset I} (h : Disjoint s t) {Φ : I → sProp 𝕄} : bigSep (s ∪ t) Φ = iprop(bigSep s Φ ∗ bigSep t Φ) :=
  bigSep_union h

/-- Every block's credit, as any memref's of that size. -/
theorem credit_eq {sp : Space} (v : Memref sig .tc sp S2048x512 .f32) : v.view.dmaCredit = N := by
  cases sp <;> rfl

/-- The landing block of a lane at the device it is sent to. -/
theorem land_eq (k : Lane) (c : Dev nD) : (land k (tgt (grp k) c) : sProp 𝕄)
    = iprop(∃ f : Buf (Elt F) ((blk (org k c)).view.loc (tgt (grp k) c : Thread nD τ)),
        (blk (org k c)).view.loc (tgt (grp k) c : Thread nD τ) ↦[(blk (org k c)).view.set]{fullShare} f) := by
  have ho : rorg k (tgt (grp k) c) = org k c := by unfold rorg; rw [frm_tgt]
  unfold land; rw [ho]
/-- A block that came falls into its eight shares. -/
theorem done_row (c : Dev nD) (k : Lane) : done m ρ c (rorg k c) fullShare = bigSep (row (some k)) (piece m ρ c) := by
  unfold done
  rw [ShareLeaves.pointsTo_leaves _ _ 3 fullShare, show row (some k) = Finset.univ.map ⟨fun i : Fin (2 ^ 3) => ((some k, i) : Piece), fun a b h => (Prod.ext_iff.1 h).2⟩ from ?_, bigSep_map]
  · rfl
  · ext p; rw [mem_row, Finset.mem_map]
    exact ⟨fun h => ⟨p.2, Finset.mem_univ _, Prod.ext h.symm rfl⟩, fun ⟨i, _, h⟩ => h ▸ rfl⟩

/-- A send on lane `k`: the source is the share that the lane borrows, the target is the block of that lane. -/
theorem send {c e : Dev nD} {n : ℕ} {k : Lane} (hev : ev (zOf c) n = Plan.snd k.val) {sp : Space} {src : Memref sig .tc sp S2048x512 .f32}
    {q : PosShare TreeShare} {fs : Buf (Elt F) (src.view.loc (c : Thread nD τ))}
    (hsrc : (src.view.loc (c : Thread nD τ) ↦[src.view.set]{q} fs : sProp 𝕄) = piece m ρ c (lent k (zOf c)))
    (hread : src.view.read (Elt F) fs = xs m ρ (org k c))
    {dst : Memref sig .tc .hbm S2048x512 .f32} (hdst : dst = blk (org k c)) (he : e = tgt (grp k) c)
    {sS sR : DmaSem sig} (hS : sS = ssem k) (hR : sR = rsem k)
    {hsc : dst.view.ref.isScScratch = false} {hws : src.view.WordExact} {hwd : dst.view.WordExact}
    {hty : DmaTarget.Typed sp (.dma sR) (.remote (Dev.tc e : Thread nD τ) dst (.dma sS) hsc)} :
    St m ρ K c n ⊢ WP c (Prog.lift (.enqueueDma src (.remote (Dev.tc e : Thread nD τ) dst (.dma sS) hsc) (.dma sR) hws hwd hty))
      (fun _ => St m ρ K c (n + 1)) := by
  subst hdst he hS hR
  have hk := snd_at hev
  have ha : act k (zOf c) = true := hk.1
  have hra : ract k (zOf (tgt (grp k) c)) = true := (ract_tgt k c).trans ha
  have ho : rorg k (tgt (grp k) c) = org k c := by unfold rorg; rw [frm_tgt]
  have hd : ∀ k' : Lane, ev (zOf c) n ≠ dep k'.val := fun k' => by rw [hev]; exact snd_ne_dep k k'
  have hr : ∀ k' : Lane, ev (zOf c) n ≠ Plan.rcv k'.val := fun k' => by rw [hev]; exact snd_ne_rcv k k'
  obtain ⟨hu, hu'⟩ := unsent_send hev
  obtain ⟨hf, hf'⟩ := flying_send hev
  obtain ⟨hh, hh'⟩ := hand_send hev
  unfold St Has WP Prog.lift
  rw [phase_succ (z := zOf c) (by rw [hev]; unfold Plan.snd cpy; omega) (by rw [hev]; unfold Plan.snd cwt; omega)]
  simp only [now]
  rw [hu, ows_insert c hu', put hu', hh, put hh', hf, put hf', due_succ hr, came_succ hr, gone_succ hd, ← hsrc]
  iintro ⟨#HR, #HL, ⟨%W, HO⟩, ⟨Hp, Hu⟩, Hdue, Hfly, Hgone, Hcame, ⟨Hsrc, Hhand⟩, Hcpy⟩
  ihave Hp' := (Entails.of_eq (pend.eq_def c k)) $$ Hp
  icases Hp' with ⟨HtS, HtR, Hl, Hat⟩
  ihave Hl' := (Entails.of_eq (land_eq k c)) $$ Hl
  icases Hl' with ⟨%fd, Hd⟩
  ihave #HS := (recs_at m ρ K (c, iS k)) $$ HR
  ihave #HV := (recs_at m ρ K (tgt (grp k) c, iR k)) $$ HR
  icases HS with ⟨#HSi, #HSr⟩
  icases HV with ⟨#HVi, #HVr⟩
  iapply (Rounds.wp_send_pointsTo 𝒱₀ ER (sched m ρ) (c : Thread nD τ) none (κ₁ := K (c, iS k)) (κ₂ := K (tgt (grp k) c, iR k))
    (r₁ := 0) (r₂ := 0) (d₁ := (0 : Fin 4)) (d₂ := (0 : Fin 4)) (fd := fd) (sS := .dma (ssem k)) (sem := .dma (rsem k))
    (by rw [duties_snd m ρ c k ha]; exact Finset.mem_singleton_self _) (by rw [duties_rcv m ρ _ k hra]; exact Finset.mem_singleton_self _)
    () () N (credit_eq _) (amount_snd m ρ c k 0) (amount_rcv m ρ _ k 0) (ows c (unsent (zOf c) (n + 1))) rfl (W := W)
    (by rw [payload_snd, hsrc])
    (by rw [payload_rcv, ho, hread]; unfold done; rw [pointsTo_congr (write_blk m ρ (org k c) fd _ rfl)])) $$ [HO HtS HtR Hd Hsrc]
  · isplitr; · iexact HSi
    isplitr; · iexact HVi
    isplitl [Hsrc]; · iexact Hsrc
    isplitl [Hd]; · iexact Hd
    isplitl [HO]; · iexact HO
    isplitl [HtS]; · iexact HtS
    isplitr; · iexact HSr
    isplitl [HtR]; · iexact HtR
    iexact HVr
  iintro ⟨Hc, HO⟩
  rw [wp_ret]; imodintro
  isplitr; · iexact HR
  isplitr; · iexact HL
  isplitl [HO]; · iexists W; iexact HO
  isplitl [Hu]; · iexact Hu
  isplitl [Hdue]; · iexact Hdue
  isplitl [Hc Hat Hfly]
  · isplitl [Hc Hat]
    · unfold fly; isplitl [Hc] <;> iassumption
    · iexact Hfly
  isplitl [Hgone]; · iexact Hgone
  isplitl [Hcame]; · iexact Hcame
  isplitl [Hhand] <;> iassumption

/-- A wait for the arrival on lane `k`. -/
theorem recv {c : Dev nD} {n : ℕ} {k : Lane} (hev : ev (zOf c) n = Plan.rcv k.val) {q : DmaSem sig} (hq : q = rsem k)
    {sp sp' : Space} {src : Memref sig .tc sp S2048x512 .f32} {dst : Memref sig .tc sp' S2048x512 .f32}
    {hws : src.view.WordExact} {hwd : dst.view.WordExact} :
    St m ρ K c n ⊢ WP c (Prog.lift (.waitDma2 q src dst hws hwd)) (fun _ => St m ρ K c (n + 1)) := by
  subst hq
  have ha : ract k (zOf c) = true := (rcv_at hev).1
  have hs : ∀ k' : Lane, ev (zOf c) n ≠ Plan.snd k'.val := fun k' => by rw [hev]; exact (snd_ne_rcv k' k).symm
  have hd : ∀ k' : Lane, ev (zOf c) n ≠ dep k'.val := fun k' => by rw [hev]; exact rcv_ne_dep k k'
  obtain ⟨hu, hu'⟩ := due_recv hev
  obtain ⟨hc, hc'⟩ := came_recv hev
  obtain ⟨hh, hh'⟩ := hand_recv hev
  unfold St Has WP Prog.lift
  rw [phase_succ (z := zOf c) (by rw [hev]; unfold Plan.rcv cpy; omega) (by rw [hev]; unfold Plan.rcv cwt; omega)]
  simp only [now]
  rw [hu, put hu', hc, put hc', hh, join hh', unsent_succ hs, flying_succ hs hd, gone_succ hd]
  iintro ⟨#HR, #HL, ⟨%W, HO⟩, Hu, ⟨He, Hdue⟩, Hfly, Hgone, Hcame, Hhand, Hcpy⟩
  ihave He' := (Entails.of_eq (exp.eq_def c k)) $$ He
  icases He' with ⟨Hc, Hat⟩
  ihave #HV := (recs_at m ρ K (c, iR k)) $$ HR
  icases HV with ⟨#HVi, #HVr⟩
  iapply (Rounds.wp_wait_rest_token 𝒱₀ ER (sched m ρ) (c : Thread nD τ) none (κ := K (c, iR k)) (sm := .dma (rsem k))
    (wpE_waitDma2_eq 𝒱₀ (c : Thread nD τ) none Set.univ) (Set.mem_univ _) () (O := ows c (unsent (zOf c) n)) (W := W) (R := 0) (m := 0) (T := ∅)
    (by rw [Nat.zero_add, expect_rcv m ρ c k ha]; exact credit_eq dst)) $$ [Hc HO Hat]
  · isplitr; · iexact HVi
    isplitl [Hc]; · iexact Hc
    isplitl [HO]; · iexact HO
    isplitr; · iapply (mayWait_rcv c hev); iexact HL
    iexact Hat
  iintro ⟨HO, Hat, -, Hpay⟩
  ihave Hb := (Entails.of_eq (rest_rcv m ρ c k ha)) $$ Hpay
  imod (Rounds.cell_close ER (sched m ρ) (Set.mem_univ (K (c, iR k))) (fun h => h) (R := 0 + 1) (duties_later m ρ (rCell k c))) $$ [Hat] with Hz
  · isplitr; · iexact HVi
    iexact Hat
  rw [wp_ret]; imodintro
  isplitr; · iexact HR
  isplitr; · iexact HL
  isplitl [HO]; · iexists _; iexact HO
  isplitl [Hu]; · iexact Hu
  isplitl [Hdue]; · iexact Hdue
  isplitl [Hfly]; · iexact Hfly
  isplitl [Hgone]; · iexact Hgone
  isplitl [Hcame Hz]
  · isplitl [Hz]
    · unfold zero; iexact Hz
    · iexact Hcame
  isplitl [Hhand Hb]
  · isplitl [Hhand]; · iexact Hhand
    iapply (Entails.of_eq (done_row m ρ c k)); iexact Hb
  · iexact Hcpy

/-- A wait for the departure on lane `k`. -/
theorem depart {c : Dev nD} {n : ℕ} {k : Lane} (hev : ev (zOf c) n = dep k.val) {q : DmaSem sig} (hq : q = ssem k)
    {sp sp' : Space} {src : Memref sig .tc sp S2048x512 .f32} {dst : Memref sig .tc sp' S2048x512 .f32}
    {hws : src.view.WordExact} {hwd : dst.view.WordExact} :
    St m ρ K c n ⊢ WP c (Prog.lift (.waitDma2 q src dst hws hwd)) (fun _ => St m ρ K c (n + 1)) := by
  subst hq
  have ha : act k (zOf c) = true := (dep_at hev).1
  have hs : ∀ k' : Lane, ev (zOf c) n ≠ Plan.snd k'.val := fun k' => by rw [hev]; exact (snd_ne_dep k' k).symm
  have hr : ∀ k' : Lane, ev (zOf c) n ≠ Plan.rcv k'.val := fun k' => by rw [hev]; exact (rcv_ne_dep k' k).symm
  obtain ⟨hf, hf'⟩ := flying_dep hev
  obtain ⟨hg, hg'⟩ := gone_dep hev
  have hu : unsent (zOf c) n = ∅ := unsent_dep hev
  unfold St Has WP Prog.lift
  rw [phase_succ (z := zOf c) (by rw [hev]; unfold dep cpy; omega) (by rw [hev]; unfold dep cwt; omega)]
  simp only [now]
  rw [hf, put hf', hg, put hg', unsent_succ hs, due_succ hr, came_succ hr, hand_succ hs hr, hu]
  iintro ⟨#HR, #HL, ⟨%W, HO⟩, Hu, Hdue, ⟨He, Hfly⟩, Hgone, Hcame, Hhand, Hcpy⟩
  ihave He' := (Entails.of_eq (fly.eq_def c k)) $$ He
  icases He' with ⟨Hc, Hat⟩
  ihave #HV := (recs_at m ρ K (c, iS k)) $$ HR
  icases HV with ⟨#HVi, #HVr⟩
  iapply (Rounds.wp_wait_rest_token 𝒱₀ ER (sched m ρ) (c : Thread nD τ) none (κ := K (c, iS k)) (sm := .dma (ssem k))
    (wpE_waitDma2_eq 𝒱₀ (c : Thread nD τ) none Set.univ) (Set.mem_univ _) () (O := ows c ∅) (W := W) (R := 0) (m := 0) (T := ∅)
    (by rw [Nat.zero_add, expect_snd m ρ c k ha]; exact credit_eq dst)) $$ [Hc HO Hat]
  · isplitr; · iexact HVi
    isplitl [Hc]; · iexact Hc
    isplitl [HO]; · iexact HO
    isplitr; · iapply (mayWait_none c); iexact HL
    iexact Hat
  iintro ⟨HO, Hat, -, Hpay⟩
  ihave Hb := (Entails.of_eq (rest_snd m ρ c k ha)) $$ Hpay
  imod (Rounds.cell_close ER (sched m ρ) (Set.mem_univ (K (c, iS k))) (fun h => h) (R := 0 + 1) (duties_later m ρ (sCell k c))) $$ [Hat] with Hz
  · isplitr; · iexact HVi
    iexact Hat
  rw [wp_ret]; imodintro
  isplitr; · iexact HR
  isplitr; · iexact HL
  isplitl [HO]; · iexists _; iexact HO
  isplitl [Hu]; · iexact Hu
  isplitl [Hdue]; · iexact Hdue
  isplitl [Hfly]; · iexact Hfly
  isplitl [Hgone Hz Hb]
  · isplitl [Hz Hb]
    · unfold back; isplitl [Hz] <;> iassumption
    · iexact Hgone
  isplitl [Hcame]; · iexact Hcame
  isplitl [Hhand] <;> iassumption

/-- The lanes stand as before after a step that is the local copy or its wait. -/
theorem now_cpy {z : Fin 4} {n : ℕ} (h : ev z n = cpy ∨ ev z n = cwt) : now z (n + 1) = now z n := by
  refine now_succ (fun k => ?_) (fun k => ?_) (fun k => ?_) <;> rcases h with h | h <;> rw [h] <;> first | (unfold cpy) | (unfold cwt)
  all_goals first | (unfold Plan.snd; omega) | (unfold Plan.rcv; omega) | (unfold dep; omega)

/-- The local copy. -/
theorem copy {c : Dev nD} {dst : Memref sig .tc .hbm S2048x512 .f32} (hdst : dst = blk c) {q : DmaSem sig} (hq : q = csem)
    {hws : xM.view.WordExact} {hwd : dst.view.WordExact} {hty} :
    St m ρ K c 4 ⊢ WP c (Prog.lift (.enqueueDma xM (.here dst) (.dma q) hws hwd hty)) (fun _ => St m ρ K c (4 + 1)) := by
  subst hdst hq
  unfold St Has WP Prog.lift
  rw [now_cpy (.inl (ev_cpy _)), show phase 4 = 0 from rfl, show phase (4 + 1) = 1 from rfl]
  unfold copying
  rw [if_pos rfl, if_neg (by decide), if_pos rfl]
  unfold piece arg
  iintro ⟨#HR, #HL, HO, Hu, Hdue, Hfly, Hgone, Hcame, Hhand, ⟨%fd, Hd⟩, Hx, Ht, Hat⟩
  ihave #HV := (recs_at m ρ K (c, iC)) $$ HR
  icases HV with ⟨#HVi, #HVr⟩
  iapply (Rounds.wp_copy_pointsTo 𝒱₀ ER (sched m ρ) (c : Thread nD τ) none (sem := .dma csem) (fd := fd) (κ := K (c, iC)) (r := 0) (d := (0 : Fin 4))
    (by rw [duties_cpy]; exact Finset.mem_singleton_self _) () N (credit_eq _) (amount_cpy m ρ c 0)
    (by rw [payload_cpy, show xM.view.read (Elt F) (xs m ρ c) = xs m ρ c from View.read_whole _ _]
        unfold cpyPay done piece arg; rw [pointsTo_congr (write_blk m ρ c fd _ rfl)])) $$ [Hd Hx Ht]
  · isplitr; · iexact HVi
    isplitl [Hx]; · iexact Hx
    isplitl [Hd]; · iexact Hd
    isplitl [Ht]; · iexact Ht
    iexact HVr
  iintro Hc
  rw [wp_ret]; imodintro
  isplitr; · iexact HR
  isplitr; · iexact HL
  isplitl [HO]; · iexact HO
  isplitl [Hu]; · iexact Hu
  isplitl [Hdue]; · iexact Hdue
  isplitl [Hfly]; · iexact Hfly
  isplitl [Hgone]; · iexact Hgone
  isplitl [Hcame]; · iexact Hcame
  isplitl [Hhand]; · iexact Hhand
  isplitl [Hc] <;> iassumption

/-- The wait for the local copy. -/
theorem copied {c : Dev nD} {q : DmaSem sig} (hq : q = csem)
    {sp sp' : Space} {src : Memref sig .tc sp S2048x512 .f32} {dst : Memref sig .tc sp' S2048x512 .f32}
    {hws : src.view.WordExact} {hwd : dst.view.WordExact} :
    St m ρ K c 119 ⊢ WP c (Prog.lift (.waitDma2 q src dst hws hwd)) (fun _ => St m ρ K c (119 + 1)) := by
  subst hq
  unfold St Has WP Prog.lift
  rw [now_cpy (.inr (ev_cwt _)), show phase 119 = 1 from rfl, show phase (119 + 1) = 2 from rfl]
  unfold copying
  rw [if_neg (by decide), if_pos rfl, if_neg (by decide), if_neg (by decide), show (now (zOf c) 119).unsent = ∅ from unsent_cwt _]
  iintro ⟨#HR, #HL, ⟨%W, HO⟩, Hu, Hdue, Hfly, Hgone, Hcame, Hhand, Hc, Hat⟩
  ihave #HV := (recs_at m ρ K (c, iC)) $$ HR
  icases HV with ⟨#HVi, #HVr⟩
  iapply (Rounds.wp_wait_rest_token 𝒱₀ ER (sched m ρ) (c : Thread nD τ) none (κ := K (c, iC)) (sm := .dma csem)
    (wpE_waitDma2_eq 𝒱₀ (c : Thread nD τ) none Set.univ) (Set.mem_univ _) () (O := ows c ∅) (W := W) (R := 0) (m := 0) (T := ∅)
    (by rw [Nat.zero_add, expect_cpy m ρ c]; exact credit_eq dst)) $$ [Hc HO Hat]
  · isplitr; · iexact HVi
    isplitl [Hc]; · iexact Hc
    isplitl [HO]; · iexact HO
    isplitr; · iapply (mayWait_none c); iexact HL
    iexact Hat
  iintro ⟨HO, Hat, -, Hpay⟩
  ihave Hb := (Entails.of_eq (rest_cpy m ρ c)) $$ Hpay
  imod (Rounds.cell_close ER (sched m ρ) (Set.mem_univ (K (c, iC))) (fun h => h) (R := 0 + 1) (duties_later m ρ (cCell c))) $$ [Hat] with Hz
  · isplitr; · iexact HVi
    iexact Hat
  rw [wp_ret]; imodintro
  isplitr; · iexact HR
  isplitr; · iexact HL
  isplitl [HO]; · iexists _; iexact HO
  isplitl [Hu]; · iexact Hu
  isplitl [Hdue]; · iexact Hdue
  isplitl [Hfly]; · iexact Hfly
  isplitl [Hgone]; · iexact Hgone
  isplitl [Hcame]; · iexact Hcame
  isplitl [Hhand]; · iexact Hhand
  isplitl [Hz] <;> iassumption

/-! ## The steps in the program's words -/

/-- The semaphore at a place of an array of them. -/
theorem sem_val {base w : ℕ} (h : base + (⟨1, ![w]⟩ : Shape).numel ≤ 82) (off : Fin 1 → ℕ)
    (p : ∀ a, off a + S1.size a ≤ (⟨1, ![w]⟩ : Shape).size a) (sq : S1.Squeezes S_) :
    (((SemArray.consecutive (n := 82) base ⟨1, ![w]⟩ h).slice (Rect.unit (s := ⟨1, ![w]⟩) off S1.size p)).squeeze S_ sq).sem.val = base + off 0 := by
  have hj : ∀ x : S1.Idx, (x (0 : Fin 1)).val = 0 := fun x => Nat.lt_one_iff.1 (x (0 : Fin 1)).isLt
  show base + ((⟨1, ![w]⟩ : Shape).rowMajor _).val = _
  rw [Shape.rowMajor_val_one]
  show base + (off 0 + 1 * (_ : ℕ)) = _
  rw [hj]
  omega

/-- The lane of step `n`. -/
abbrev lane (c : Dev nD) (n : ℕ) : Lane := Fin.ofNat 40 (ev (zOf c) n % 100)

/-- Step `n` of device `c` sends: on which semaphores, to which device, which block. -/
abbrev Sends (c : Dev nD) (n s r : ℕ) (e : ℕ) (off : Fin 2 → ℕ) : Prop :=
  ev (zOf c) n = Plan.snd (lane c n).val ∧ s = (ssem (lane c n)).val ∧ r = (rsem (lane c n)).val ∧ e = (tgt (grp (lane c n)) c).val
    ∧ off 0 = 2048 * (org (lane c n) c).val ∧ off 1 = 0

/-- A send of the device's own argument. -/
theorem send_arg {c : Dev nD} (n : ℕ) {bS bR wS wR : ℕ} {hS : bS + (⟨1, ![wS]⟩ : Shape).numel ≤ 82} {hR : bR + (⟨1, ![wR]⟩ : Shape).numel ≤ 82}
    {oS oR : Fin 1 → ℕ} {pS : ∀ a, oS a + S1.size a ≤ (⟨1, ![wS]⟩ : Shape).size a} {pR : ∀ a, oR a + S1.size a ≤ (⟨1, ![wR]⟩ : Shape).size a}
    {sqS sqR : S1.Squeezes S_} {e : ℕ} {he : e < nD} {off : Fin 2 → ℕ} {p : ∀ a, off a + S2048x512.size a ≤ S65536x512.size a} {st}
    {p' : ∀ a, (![0, 0] : Fin 2 → ℕ) a + S2048x512.size a ≤ S2048x512.size a} {st'}
    (ok : Sends c n (bS + oS 0) (bR + oR 0) e off ∧ via (lane c n) (zOf c) = none) {hsc hws hwd hty} :
    St m ρ K c n ⊢ WP c (Prog.lift (.enqueueDma (xM.slice (Rect.unit (s := S2048x512) ![0, 0] S2048x512.size p') st')
        (.remote (Dev.tc (⟨e, he⟩ : Dev nD) : Thread nD τ) ((Memref.whole main_v1 : Memref sig .tc .hbm S65536x512 .f32).slice (Rect.unit (s := S65536x512) off S2048x512.size p) st)
          (.dma (((SemArray.consecutive bS ⟨1, ![wS]⟩ hS).slice (Rect.unit (s := ⟨1, ![wS]⟩) oS S1.size pS)).squeeze S_ sqS).sem) hsc)
        (.dma (((SemArray.consecutive bR ⟨1, ![wR]⟩ hR).slice (Rect.unit (s := ⟨1, ![wR]⟩) oR S1.size pR)).squeeze S_ sqR).sem) hws hwd hty))
      (fun _ => St m ρ K c (n + 1)) := by
  obtain ⟨⟨hev, hs, hr, hd, h0, h1⟩, hv⟩ := ok
  have hset : (xM.slice (Rect.unit (s := S2048x512) ![0, 0] S2048x512.size p') st').view.set = xM.view.set := by
    rw [View.set_whole]
    refine (View.set_slice_whole _ _).trans ?_
    ext i; simp only [Finset.mem_univ, iff_true]
    refine (LoadRect.mem_set _).2 fun a => ⟨(i a).val, (i a).isLt, ?_⟩
    fin_cases a <;> exact (by show _ = 0 + 1 * _; omega)
  have ho : org (lane c n) c = c := by rw [org_via _ _ (snd_at hev).1, hv]; rfl
  refine send m ρ K hev (q := leaf 3 fullShare (lent (lane c n) (zOf c)).2) (fs := xs m ρ c) ?_ ?_ (slice_eq_blk _ _ (by funext a; fin_cases a; exacts [h0, h1]) _ _)
    (Fin.ext hd) (Fin.ext ((sem_val ..).trans hs)) (Fin.ext ((sem_val ..).trans hr))
  · unfold piece lent; rw [hv]; unfold arg; rw [hset]
  · rw [ho]; exact Memref.read_access_unit_zero _ _ (by funext a; fin_cases a <;> rfl) _ _

/-- A send of a block that came before. -/
theorem send_blk {c : Dev nD} (n : ℕ) {bS bR wS wR : ℕ} {hS : bS + (⟨1, ![wS]⟩ : Shape).numel ≤ 82} {hR : bR + (⟨1, ![wR]⟩ : Shape).numel ≤ 82}
    {oS oR : Fin 1 → ℕ} {pS : ∀ a, oS a + S1.size a ≤ (⟨1, ![wS]⟩ : Shape).size a} {pR : ∀ a, oR a + S1.size a ≤ (⟨1, ![wR]⟩ : Shape).size a}
    {sqS sqR : S1.Squeezes S_} {e : ℕ} {he : e < nD} {off : Fin 2 → ℕ} {p p' : ∀ a, off a + S2048x512.size a ≤ S65536x512.size a} {st st'}
    (ok : Sends c n (bS + oS 0) (bR + oR 0) e off ∧ (via (lane c n) (zOf c)).isSome = true) {hsc hws hwd hty} :
    St m ρ K c n ⊢ WP c (Prog.lift (.enqueueDma ((Memref.whole main_v1 : Memref sig .tc .hbm S65536x512 .f32).slice (Rect.unit (s := S65536x512) off S2048x512.size p') st')
        (.remote (Dev.tc (⟨e, he⟩ : Dev nD) : Thread nD τ) ((Memref.whole main_v1 : Memref sig .tc .hbm S65536x512 .f32).slice (Rect.unit (s := S65536x512) off S2048x512.size p) st)
          (.dma (((SemArray.consecutive bS ⟨1, ![wS]⟩ hS).slice (Rect.unit (s := ⟨1, ![wS]⟩) oS S1.size pS)).squeeze S_ sqS).sem) hsc)
        (.dma (((SemArray.consecutive bR ⟨1, ![wR]⟩ hR).slice (Rect.unit (s := ⟨1, ![wR]⟩) oR S1.size pR)).squeeze S_ sqR).sem) hws hwd hty))
      (fun _ => St m ρ K c (n + 1)) := by
  obtain ⟨⟨hev, hs, hr, hd, h0, h1⟩, hv⟩ := ok
  obtain ⟨a, hv⟩ := Option.isSome_iff_exists.1 hv
  have ho : org (lane c n) c = rorg a c := by rw [org_via _ _ (snd_at hev).1, hv]; rfl
  have hoff : off = ![2048 * (org (lane c n) c).val, 0] := by funext a; fin_cases a; exacts [h0, h1]
  subst hoff
  refine send m ρ K hev (q := leaf 3 fullShare (lent (lane c n) (zOf c)).2) (fs := G m ρ) ?_ (read_blk m ρ _) (slice_eq_blk _ _ rfl _ _)
    (Fin.ext hd) (Fin.ext ((sem_val ..).trans hs)) (Fin.ext ((sem_val ..).trans hr))
  unfold piece lent; simp only [hv]; unfold done; rw [← ho]

/-- A wait for an arrival. -/
theorem wait_rcv {c : Dev nD} (n : ℕ) {b w : ℕ} {h : b + (⟨1, ![w]⟩ : Shape).numel ≤ 82}
    {o : Fin 1 → ℕ} {p : ∀ a, o a + S1.size a ≤ (⟨1, ![w]⟩ : Shape).size a} {sq : S1.Squeezes S_}
    {sp sp' : Space} {src : Memref sig .tc sp S2048x512 .f32} {dst : Memref sig .tc sp' S2048x512 .f32} {hws : src.view.WordExact} {hwd : dst.view.WordExact}
    (ok : ev (zOf c) n = Plan.rcv (lane c n).val ∧ b + o 0 = (rsem (lane c n)).val) :
    St m ρ K c n ⊢ WP c (Prog.lift (.waitDma2 (((SemArray.consecutive b ⟨1, ![w]⟩ h).slice (Rect.unit (s := ⟨1, ![w]⟩) o S1.size p)).squeeze S_ sq).sem src dst hws hwd))
      (fun _ => St m ρ K c (n + 1)) :=
  recv m ρ K ok.1 (Fin.ext ((sem_val ..).trans ok.2))
/-- A wait for a departure. -/
theorem wait_dep {c : Dev nD} (n : ℕ) {b w : ℕ} {h : b + (⟨1, ![w]⟩ : Shape).numel ≤ 82}
    {o : Fin 1 → ℕ} {p : ∀ a, o a + S1.size a ≤ (⟨1, ![w]⟩ : Shape).size a} {sq : S1.Squeezes S_}
    {sp sp' : Space} {src : Memref sig .tc sp S2048x512 .f32} {dst : Memref sig .tc sp' S2048x512 .f32} {hws : src.view.WordExact} {hwd : dst.view.WordExact}
    (ok : ev (zOf c) n = dep (lane c n).val ∧ b + o 0 = (ssem (lane c n)).val) :
    St m ρ K c n ⊢ WP c (Prog.lift (.waitDma2 (((SemArray.consecutive b ⟨1, ![w]⟩ h).slice (Rect.unit (s := ⟨1, ![w]⟩) o S1.size p)).squeeze S_ sq).sem src dst hws hwd))
      (fun _ => St m ρ K c (n + 1)) :=
  depart m ρ K ok.1 (Fin.ext ((sem_val ..).trans ok.2))

end Cert.KernelIdeal.Gather

end
-- ==== Proof.KernelIdeal.Signals.lean ====
/-
  The start of the body: a device finds its own number, gives its four signals, each with the landing blocks that it pays
  for, and waits for the four signals of its own barrier, which bring the landing blocks it will send to.
-/
module

public import proofs.«01_k».proof.Proof.KernelIdeal.Steps
public import proofs.«01_k».proof.Proof.Gen.KernelIdeal.Skeleton

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-! ## Before the barrier -/

/-- The signals not yet given when `n` of them were. -/
def later (n : ℕ) : Finset (Fin 4) := Finset.univ.filter fun s => n ≤ s.val
/-- The next one is among them. -/
theorem later_at (s : Fin 4) : later s.val = insert s (later (s.val + 1)) ∧ s ∉ later (s.val + 1) := by revert s; decide
/-- In the end none is left. -/
theorem later_end : later 4 = ∅ := by decide

/-- What a device owes for the signals of a set. -/
def bows (c : Dev nD) (S : Finset (Fin 4)) : CellTallies nD τ sig Unit := ∑ s ∈ S, bow c s
/-- Giving a signal pays it. -/
theorem bows_insert (c : Dev nD) {s : Fin 4} {S : Finset (Fin 4)} (h : s ∉ S) : bows c (insert s S) = bows c S + bow c s := by
  unfold bows; rw [Finset.sum_insert h, add_comm]
/-- At launch all are owed. -/
theorem O₀_eq (c : Dev nD) : O₀ c = ows c (unsent (zOf c) 0) + bows c (later 0) := by
  unfold O₀ bows
  rw [show later 0 = Finset.univ from by decide, Fin.sum_univ_four]
  simp only [add_assoc, add_comm, add_left_comm]

/-- For a signal not yet given: the right to pay it, and what it hands over. -/
def call (c : Dev nD) (s : Fin 4) : sProp 𝕄 :=
  iprop(dutyTok ER (barCell (pays c s).1) 0 (pays c s).2 ∗ barPay (pays c s).1 (pays c s).2)
/-- For a lane not yet sent on, all but the landing block. -/
def pend' (c : Dev nD) (k : Lane) : sProp 𝕄 :=
  iprop(dutyTok ER (sCell k c) 0 (0 : Fin 4) ∗ dutyTok ER (rCell k (tgt (grp k) c)) 0 (0 : Fin 4) ∗ atPos ER (sCell k c) 0 (∅ : Finset (Fin 4)) 0)
/-- What the signals leave alone. -/
def rest (c : Dev nD) : sProp 𝕄 :=
  iprop(cred (tallyAt (barCell c) () 4) ∗ atPos ER (barCell c) 0 (∅ : Finset (Fin 4)) 0 ∗ bigSep (unsent (zOf c) 0) (pend' c)
    ∗ bigSep (due (zOf c) 0) (exp c) ∗ bigSep (hand (zOf c) 0) (piece m ρ c) ∗ copying m ρ c 0)
/-- What device `c` holds when it has given `n` signals. -/
def Bar (c : Dev nD) (n : ℕ) : sProp 𝕄 :=
  iprop(recs m ρ K ∗ levAts L lv ∗ (∃ W, owes (c : Thread nD τ) (ows c (unsent (zOf c) 0) + bows c (later n)) W) ∗ bigSep (later n) (call c) ∗ rest m ρ c)

/-- A signal. -/
theorem signal {c : Dev nD} (s : Fin 4) {e : Dev nD} (he : e = (pays c s).1) {α : Type} {k : PUnit → Prog (TpuEff nD τ sig (Elt F) Λ₀ .tc) α}
    {Q : α → sProp 𝕄} (hk : Bar m ρ K c (s.val + 1) ⊢ WP c (k ⟨⟩) Q) :
    Bar m ρ K c s.val ⊢ WP c (.op (.semSignal (e : Thread nD τ) barS (1#32).toInt) k) Q := by
  subst he
  unfold Bar
  rw [(later_at s).1, put (later_at s).2, bows_insert c (later_at s).2, ← add_assoc]
  unfold Bar WP at hk
  iintro ⟨#HR, #HL, ⟨%W, HO⟩, ⟨Hc, Hl⟩, Hrest⟩
  ihave Hc' := (Entails.of_eq (call.eq_def c s)) $$ Hc
  icases Hc' with ⟨Ht, Hp⟩
  ihave #HV := (recs_at m ρ K ((pays c s).1, iB)) $$ HR
  icases HV with ⟨#HVi, #HVr⟩
  iapply (Rounds.wp_signal 𝒱₀ ER (sched m ρ) (c : Thread nD τ) none (dst := ((pays c s).1 : Thread nD τ)) (κ := K ((pays c s).1, iB)) (d := (pays c s).2)
    (by rw [duties_bar]; exact Finset.mem_univ _) ((amount_bar m ρ _ _).trans (by decide)) () (ows c (unsent (zOf c) 0) + bows c (later (s.val + 1))) rfl (W := W))
    $$ [HO Ht Hp]
  · isplitr; · iexact HVi
    isplitl [HO]; · iexact HO
    isplitl [Ht]; · iexact Ht
    isplitl [Hp]; · rw [payload_bar]; iexact Hp
    iexact HVr
  iintro HO
  iapply hk
  isplitr; · iexact HR
  isplitr; · iexact HL
  isplitl [HO]; · iexists W; iexact HO
  isplitl [Hl] <;> iassumption

/-- A signal to another device, in the program's words, -/
theorem signal_to {c : Dev nD} (s : Fin 4) {e : ℕ} {he : e < nD} (h : e = (pays c s).1.val) :
    Bar m ρ K c s.val ⊢ WP c (semSignalWord (⟨e, he⟩ : Dev nD) barS 1#32) (fun _ => Bar m ρ K c (s.val + 1)) :=
  signal m ρ K s (Fin.ext h) (stop _ .rfl)
/-- and one to the device itself. -/
theorem signal_here {c : Dev nD} (s : Fin 4) (h : (pays c s).1 = c) :
    Bar m ρ K c s.val ⊢ WP c (semSignalHereWord barS 1#32) (fun _ => Bar m ρ K c (s.val + 1)) := by
  unfold semSignalHereWord WP
  rw [wp_deviceId]
  exact signal m ρ K s h.symm (stop _ .rfl)

/-- One of two steps, whichever's condition holds, and then the program `X`. -/
theorem either {c : Dev nD} {b b' : Prop} [Decidable b] [Decidable b'] (hb : b' ↔ ¬ b) {α : Type} {p : b → Prog (TpuEff nD τ sig (Elt F) Λ₀ .tc) PUnit}
    {p' : b' → Prog (TpuEff nD τ sig (Elt F) Λ₀ .tc) PUnit} {X : Prog (TpuEff nD τ sig (Elt F) Λ₀ .tc) α} {P R : sProp 𝕄} {Q : α → sProp 𝕄}
    (h : ∀ i, P ⊢ WP c (p i) (fun _ => R)) (h' : ∀ i, P ⊢ WP c (p' i) (fun _ => R)) (hX : R ⊢ WP c X Q) :
    P ⊢ WP c (if i : b then p i >>= fun _ => if i : b' then p' i >>= fun _ => X else X else if i : b' then p' i >>= fun _ => X else X) Q := by
  by_cases i : b
  · rw [dif_pos i]
    refine seq (h i) fun _ => ?_
    rw [dif_neg fun j => hb.1 j i]; exact hX
  · rw [dif_neg i, dif_pos (hb.2 i)]
    exact seq (h' _) fun _ => hX

/-- A landing block joins what was held for its lane. -/
theorem pend_one (c : Dev nD) (k : Lane) : (iprop(pend' c k ∗ land k (tgt (grp k) c)) : sProp 𝕄) ⊢ pend c k := by
  unfold pend pend'
  iintro ⟨⟨H1, H2, H3⟩, H4⟩
  isplitl [H1]; · iexact H1
  isplitl [H2]; · iexact H2
  isplitl [H4] <;> iassumption
/-- The landing blocks that came with the signals join what was held for their lanes. -/
theorem pend_all (c : Dev nD) : iprop(bigSep (unsent (zOf c) 0) (pend' (F := F) c) ∗ bigSep (unsent (zOf c) 0) fun k => land k (tgt (grp k) c))
    ⊢ bigSep (unsent (zOf c) 0) (pend (F := F) c) := by
  rw [← bigSep_sep']
  exact bigSep_mono fun k _ => pend_one c k

/-- The wait for the four signals. -/
theorem met {c : Dev nD} : Bar m ρ K c 4 ⊢ WP c (semWaitWord barS 4#32) (fun _ => iprop(St m ρ K c 0 ∗ semVal (barCell c) 0)) := by
  unfold Bar WP semWaitWord rest
  rw [later_end, show bows c ∅ = 0 from rfl, add_zero]
  iintro ⟨#HR, #HL, ⟨%W, HO⟩, -, Hc, Hat, Hp, Hd, Hh, Hcpy⟩
  ihave #HV := (recs_at m ρ K (c, iB)) $$ HR
  icases HV with ⟨#HVi, #HVr⟩
  iapply (Rounds.wp_wait_rest_token 𝒱₀ ER (sched m ρ) (c : Thread nD τ) none (κ := K (c, iB)) (sm := .reg barS)
    (wpE_semWait_eq 𝒱₀ (c : Thread nD τ) none Set.univ) (Set.mem_univ _) () (O := ows c (unsent (zOf c) 0)) (W := W) (R := 0) (m := 0) (T := ∅)
    (by rw [expect_bar]; decide)) $$ [Hc HO Hat]
  · isplitr; · iexact HVi
    isplitl [Hc]; · iexact Hc
    isplitl [HO]; · iexact HO
    isplitr; · iapply (mayWait_bar c); iexact HL
    iexact Hat
  iintro ⟨HO, Hat, -, Hpay⟩
  ihave Hb := (Entails.of_eq (rest_bar m ρ c)) $$ Hpay
  imod (Rounds.cell_close ER (sched m ρ) (Set.mem_univ (K (c, iB))) (fun h => h) (R := 0 + 1) (duties_later m ρ (barCell c))) $$ [Hat] with Hz
  · isplitr; · iexact HVi
    iexact Hat
  rw [wp_ret]; imodintro
  isplitr [Hz]
  · unfold St Has
    rw [show phase 0 = 0 from rfl]
    simp only [now]
    rw [flying_zero, gone_zero, came_zero, bigSep_empty, bigSep_empty, bigSep_empty]
    isplitr; · iexact HR
    isplitr; · iexact HL
    isplitl [HO]; · iexists _; iexact HO
    isplitl [Hp Hb]
    · iapply (pend_all c); isplitl [Hp] <;> iassumption
    isplitl [Hd]; · iexact Hd
    isplitr; · iempintro
    isplitr; · iempintro
    isplitr; · iempintro
    isplitl [Hh] <;> iassumption
  · iexact Hz

/-! ## The parts -/

/-- The word of a device's plane. -/
abbrev zw (c : Dev nD) : BitVec 32 := BitVec.ofNat 32 (zOf c).val

/-- The first part finds the device's number and its plane. -/
theorem part1 (c : Dev nD) {hx : xM.IsWhole} {hv : (Memref.whole main_v1 : Memref sig .tc .hbm S65536x512 .f32).IsWhole} {P : sProp 𝕄} :
    P ⊢ WP c (k0_part1 (F := F) xM hx (Memref.whole main_v1) hv cc0_scratch0 cc0_scratch1 cc0_scratch2 cc0_scratch3 cc0_scratch4 cc0_scratch5 cc0_scratch6 cc0_scratch7 cc0_scratch8)
      (fun r => iprop(⌜r.1 = c ∧ r.2.2.1 = zw c⌝ ∗ P)) := by
  rw [k0_part1_eq_skeleton]; unfold k0_part1_skel WP
  simp only [Prog.lift, Prog.bind_op, Prog.bind_ret, wp_deviceId]
  refine stop _ ?_
  iintro H
  isplitr
  · ipureintro; exact ⟨rfl, by revert c; decide +kernel⟩
  · iexact H

/-- The barrier. -/
theorem part3 (c : Dev nD) {hx : xM.IsWhole} {hv : (Memref.whole main_v1 : Memref sig .tc .hbm S65536x512 .f32).IsWhole} {v2 v52 v53 v56 v62 : BitVec 32} {v63 : BitVec 1} :
    Bar m ρ K c 0 ⊢ WP c (k0_part3 (F := F) xM hx (Memref.whole main_v1) hv cc0_scratch0 cc0_scratch1 cc0_scratch2 cc0_scratch3 cc0_scratch4 cc0_scratch5 cc0_scratch6 cc0_scratch7 cc0_scratch8
      c v2 (zw c) v52 v53 v56 v62 v63) (fun _ => iprop(St m ρ K c 0 ∗ semVal (barCell c) 0)) := by
  rw [k0_part3_eq_skeleton]; unfold k0_part3_skel
  refine seq (signal_to m ρ K 0 (by revert c; decide +kernel)) fun _ => ?_
  refine seq (signal_to m ρ K 1 (by revert c; decide +kernel)) fun _ => ?_
  refine either (by revert c; decide +kernel) (fun h => signal_to m ρ K 2 (by revert h c; decide +kernel))
    (fun h => signal_here m ρ K 2 (by revert h c; decide +kernel)) ?_
  refine either (by revert c; decide +kernel) (fun h => signal_to m ρ K 3 (by revert h c; decide +kernel))
    (fun h => signal_here m ρ K 3 (by revert h c; decide +kernel)) ?_
  exact seq (met m ρ K) fun _ => stop _ .rfl

end Cert.KernelIdeal.Gather

end
-- ==== Proof.KernelIdeal.Column.lean ====
/-
  The parts of the body, one after the other, each from its first step to its last. The first sends, the local copy and the three rounds of the column.
-/
module

public import proofs.«01_k».proof.Proof.KernelIdeal.Steps
public import proofs.«01_k».proof.Proof.Gen.KernelIdeal.Skeleton

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-- The first sends, of a device's own argument to its four neighbours, and the start of the local copy. -/
theorem part10 (c : Dev nD) {hx : xM.IsWhole} {hv : (Memref.whole main_v1 : Memref sig .tc .hbm S65536x512 .f32).IsWhole} {v2 v19 v20 v71 v72 v73 v191 : BitVec 32} {v74 v75 : BitVec 1} :
    St m ρ K c 0 ⊢ WP c (k0_part10 (F := F) xM hx (Memref.whole main_v1) hv cc0_scratch0 cc0_scratch1 cc0_scratch2 cc0_scratch3 cc0_scratch4 cc0_scratch5 cc0_scratch6 cc0_scratch7 cc0_scratch8
      c v2 v19 v20 v71 v72 v73 v74 v75 v191) (fun _ => St m ρ K c 5) := by
  rw [k0_part10_eq_skeleton]; unfold k0_part10_skel
  refine seq (send_arg m ρ K 0 (by revert c; decide +kernel)) fun _ => ?_
  refine seq (send_arg m ρ K 1 (by revert c; decide +kernel)) fun _ => ?_
  refine cond m ρ K 2 (fun h => send_arg m ρ K 2 (by revert h c; decide +kernel)) (by revert c; decide +kernel) ?_
  refine cond m ρ K 3 (fun h => send_arg m ρ K 3 (by revert h c; decide +kernel)) (by revert c; decide +kernel) ?_
  refine seq (copy m ρ K (slice_eq_blk _ _ (by revert c; decide +kernel) _ _) rfl) fun _ => ?_
  exact stop _ .rfl

/-- The column, first round, upwards, and the first wait downwards. -/
theorem part11 (c : Dev nD) {hx : xM.IsWhole} {hv : (Memref.whole main_v1 : Memref sig .tc .hbm S65536x512 .f32).IsWhole} {v2 v19 v20 v52 v71 v72 v107 v191 v294 v297 : BitVec 32} {v74 v75 v295 : BitVec 1} :
    St m ρ K c 5 ⊢ WP c (k0_part11 (F := F) xM hx (Memref.whole main_v1) hv cc0_scratch0 cc0_scratch1 cc0_scratch2 cc0_scratch3 cc0_scratch4 cc0_scratch5 cc0_scratch6 cc0_scratch7 cc0_scratch8
      c v2 v19 v20 v52 v71 v72 v74 v75 v107 v191 v294 v295 v297) (fun _ => St m ρ K c 10) := by
  rw [k0_part11_eq_skeleton]; unfold k0_part11_skel
  refine cond m ρ K 5 (fun h => wait_rcv m ρ K 5 (by revert h c; decide +kernel)) (by revert c; decide +kernel) ?_
  refine cond m ρ K 6 (fun h => send_blk m ρ K 6 (by revert h c; decide +kernel)) (by revert c; decide +kernel) ?_
  refine cond m ρ K 7 (fun h => send_blk m ρ K 7 (by revert h c; decide +kernel)) (by revert c; decide +kernel) ?_
  refine cond m ρ K 8 (fun h => send_blk m ρ K 8 (by revert h c; decide +kernel)) (by revert c; decide +kernel) ?_
  refine cond m ρ K 9 (fun h => wait_rcv m ρ K 9 (by revert h c; decide +kernel)) (by revert c; decide +kernel) ?_
  exact stop _ .rfl

/-- The column, first round, downwards, and the second wait upwards. -/
theorem part12 (c : Dev nD) {hx : xM.IsWhole} {hv : (Memref.whole main_v1 : Memref sig .tc .hbm S65536x512 .f32).IsWhole} {v2 v19 v20 v52 v71 v73 v107 v191 v325 v328 : BitVec 32} {v74 v326 v331 : BitVec 1} :
    St m ρ K c 10 ⊢ WP c (k0_part12 (F := F) xM hx (Memref.whole main_v1) hv cc0_scratch0 cc0_scratch1 cc0_scratch2 cc0_scratch3 cc0_scratch4 cc0_scratch5 cc0_scratch6 cc0_scratch7 cc0_scratch8
      c v2 v19 v20 v52 v71 v73 v74 v107 v191 v325 v326 v328 v331) (fun _ => St m ρ K c 14) := by
  rw [k0_part12_eq_skeleton]; unfold k0_part12_skel
  refine cond m ρ K 10 (fun h => send_blk m ρ K 10 (by revert h c; decide +kernel)) (by revert c; decide +kernel) ?_
  refine cond m ρ K 11 (fun h => send_blk m ρ K 11 (by revert h c; decide +kernel)) (by revert c; decide +kernel) ?_
  refine cond m ρ K 12 (fun h => send_blk m ρ K 12 (by revert h c; decide +kernel)) (by revert c; decide +kernel) ?_
  refine cond m ρ K 13 (fun h => wait_rcv m ρ K 13 (by revert h c; decide +kernel)) (by revert c; decide +kernel) ?_
  exact stop _ .rfl

/-- The column, second round, upwards, and the second wait downwards. -/
theorem part13 (c : Dev nD) {hx : xM.IsWhole} {hv : (Memref.whole main_v1 : Memref sig .tc .hbm S65536x512 .f32).IsWhole} {v2 v19 v20 v52 v71 v72 v107 v191 v356 v359 : BitVec 32} {v75 v357 v362 : BitVec 1} :
    St m ρ K c 14 ⊢ WP c (k0_part13 (F := F) xM hx (Memref.whole main_v1) hv cc0_scratch0 cc0_scratch1 cc0_scratch2 cc0_scratch3 cc0_scratch4 cc0_scratch5 cc0_scratch6 cc0_scratch7 cc0_scratch8
      c v2 v19 v20 v52 v71 v72 v75 v107 v191 v356 v357 v359 v362) (fun _ => St m ρ K c 18) := by
  rw [k0_part13_eq_skeleton]; unfold k0_part13_skel
  refine cond m ρ K 14 (fun h => send_blk m ρ K 14 (by revert h c; decide +kernel)) (by revert c; decide +kernel) ?_
  refine cond m ρ K 15 (fun h => send_blk m ρ K 15 (by revert h c; decide +kernel)) (by revert c; decide +kernel) ?_
  refine cond m ρ K 16 (fun h => send_blk m ρ K 16 (by revert h c; decide +kernel)) (by revert c; decide +kernel) ?_
  refine cond m ρ K 17 (fun h => wait_rcv m ρ K 17 (by revert h c; decide +kernel)) (by revert c; decide +kernel) ?_
  exact stop _ .rfl

/-- The column, second round, downwards, and the third wait upwards. -/
theorem part14 (c : Dev nD) {hx : xM.IsWhole} {hv : (Memref.whole main_v1 : Memref sig .tc .hbm S65536x512 .f32).IsWhole} {v2 v19 v20 v52 v71 v73 v107 v191 v387 : BitVec 32} {v74 v388 v393 : BitVec 1} :
    St m ρ K c 18 ⊢ WP c (k0_part14 (F := F) xM hx (Memref.whole main_v1) hv cc0_scratch0 cc0_scratch1 cc0_scratch2 cc0_scratch3 cc0_scratch4 cc0_scratch5 cc0_scratch6 cc0_scratch7 cc0_scratch8
      c v2 v19 v20 v52 v71 v73 v74 v107 v191 v387 v388 v393) (fun _ => St m ρ K c 22) := by
  rw [k0_part14_eq_skeleton]; unfold k0_part14_skel
  refine cond m ρ K 18 (fun h => send_blk m ρ K 18 (by revert h c; decide +kernel)) (by revert c; decide +kernel) ?_
  refine cond m ρ K 19 (fun h => send_blk m ρ K 19 (by revert h c; decide +kernel)) (by revert c; decide +kernel) ?_
  refine cond m ρ K 20 (fun h => send_blk m ρ K 20 (by revert h c; decide +kernel)) (by revert c; decide +kernel) ?_
  refine cond m ρ K 21 (fun h => wait_rcv m ρ K 21 (by revert h c; decide +kernel)) (by revert c; decide +kernel) ?_
  exact stop _ .rfl

/-- The column, third round, upwards, and the third wait downwards. -/
theorem part15 (c : Dev nD) {hx : xM.IsWhole} {hv : (Memref.whole main_v1 : Memref sig .tc .hbm S65536x512 .f32).IsWhole} {v2 v19 v20 v52 v71 v72 v73 v107 v191 v418 v427 c0_i32_369 : BitVec 32} {v75 v419 : BitVec 1} :
    St m ρ K c 22 ⊢ WP c (k0_part15 (F := F) xM hx (Memref.whole main_v1) hv cc0_scratch0 cc0_scratch1 cc0_scratch2 cc0_scratch3 cc0_scratch4 cc0_scratch5 cc0_scratch6 cc0_scratch7 cc0_scratch8
      c v2 v19 v20 v52 v71 v72 v73 v75 v107 v191 v418 v419 v427 c0_i32_369) (fun _ => St m ρ K c 27) := by
  rw [k0_part15_eq_skeleton]; unfold k0_part15_skel
  refine cond m ρ K 22 (fun h => send_blk m ρ K 22 (by revert h c; decide +kernel)) (by revert c; decide +kernel) ?_
  refine cond m ρ K 23 (fun h => send_blk m ρ K 23 (by revert h c; decide +kernel)) (by revert c; decide +kernel) ?_
  refine cond m ρ K 24 (fun h => send_blk m ρ K 24 (by revert h c; decide +kernel)) (by revert c; decide +kernel) ?_
  refine cond m ρ K 25 (fun h => wait_rcv m ρ K 25 (by revert h c; decide +kernel)) (by revert c; decide +kernel) ?_
  refine cond m ρ K 26 (fun h => send_blk m ρ K 26 (by revert h c; decide +kernel)) (by revert c; decide +kernel) ?_
  exact stop _ .rfl

/-- The column, third round, downwards, and the first arrival on the ring. -/
theorem part16 (c : Dev nD) {hx : xM.IsWhole} {hv : (Memref.whole main_v1 : Memref sig .tc .hbm S65536x512 .f32).IsWhole} {v2 v52 v71 v107 v124 v191 v449 : BitVec 32} {v450 : BitVec 1} :
    St m ρ K c 27 ⊢ WP c (k0_part16 (F := F) xM hx (Memref.whole main_v1) hv cc0_scratch0 cc0_scratch1 cc0_scratch2 cc0_scratch3 cc0_scratch4 cc0_scratch5 cc0_scratch6 cc0_scratch7 cc0_scratch8
      c v2 v52 v71 v107 v124 v191 v449 v450) (fun _ => St m ρ K c 30) := by
  rw [k0_part16_eq_skeleton]; unfold k0_part16_skel
  refine cond m ρ K 27 (fun h => send_blk m ρ K 27 (by revert h c; decide +kernel)) (by revert c; decide +kernel) ?_
  refine cond m ρ K 28 (fun h => send_blk m ρ K 28 (by revert h c; decide +kernel)) (by revert c; decide +kernel) ?_
  refine seq (wait_rcv m ρ K 29 (by revert c; decide +kernel)) fun _ => ?_
  exact stop _ .rfl

end Cert.KernelIdeal.Gather

end
-- ==== Proof.KernelIdeal.Hop1.lean ====
/-
  The parts of the body, one after the other, each from its first step to its last. The first hop of every block round its plane's ring.
-/
module

public import proofs.«01_k».proof.Proof.KernelIdeal.Steps
public import proofs.«01_k».proof.Proof.Gen.KernelIdeal.Skeleton

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-- The first hop round the ring, part 1 of 5. -/
theorem part17 (c : Dev nD) {hx : xM.IsWhole} {hv : (Memref.whole main_v1 : Memref sig .tc .hbm S65536x512 .f32).IsWhole} {v2 v52 v71 v124 v207 v488 c2048_i32_419 : BitVec 32} :
    St m ρ K c 30 ⊢ WP c (k0_part17 (F := F) xM hx (Memref.whole main_v1) hv cc0_scratch0 cc0_scratch1 cc0_scratch2 cc0_scratch3 cc0_scratch4 cc0_scratch5 cc0_scratch6 cc0_scratch7 cc0_scratch8
      c v2 v52 v71 v124 v207 v488 c2048_i32_419) (fun _ => St m ρ K c 33) := by
  rw [k0_part17_eq_skeleton]; unfold k0_part17_skel
  refine seq (send_blk m ρ K 30 (by revert c; decide +kernel)) fun _ => ?_
  refine seq (wait_rcv m ρ K 31 (by revert c; decide +kernel)) fun _ => ?_
  refine seq (send_blk m ρ K 32 (by revert c; decide +kernel)) fun _ => ?_
  exact stop _ .rfl

/-- The first hop round the ring, part 2 of 5. -/
theorem part18 (c : Dev nD) {hx : xM.IsWhole} {hv : (Memref.whole main_v1 : Memref sig .tc .hbm S65536x512 .f32).IsWhole} {v2 v52 v71 v124 v207 : BitVec 32} :
    St m ρ K c 33 ⊢ WP c (k0_part18 (F := F) xM hx (Memref.whole main_v1) hv cc0_scratch0 cc0_scratch1 cc0_scratch2 cc0_scratch3 cc0_scratch4 cc0_scratch5 cc0_scratch6 cc0_scratch7 cc0_scratch8
      c v2 v52 v71 v124 v207) (fun _ => St m ρ K c 36) := by
  rw [k0_part18_eq_skeleton]; unfold k0_part18_skel
  refine seq (wait_rcv m ρ K 33 (by revert c; decide +kernel)) fun _ => ?_
  refine seq (send_blk m ρ K 34 (by revert c; decide +kernel)) fun _ => ?_
  refine seq (wait_rcv m ρ K 35 (by revert c; decide +kernel)) fun _ => ?_
  exact stop _ .rfl

/-- The first hop round the ring, part 3 of 5. -/
theorem part19 (c : Dev nD) {hx : xM.IsWhole} {hv : (Memref.whole main_v1 : Memref sig .tc .hbm S65536x512 .f32).IsWhole} {v2 v52 v124 v207 v548 c0_i32_474 : BitVec 32} :
    St m ρ K c 36 ⊢ WP c (k0_part19 (F := F) xM hx (Memref.whole main_v1) hv cc0_scratch0 cc0_scratch1 cc0_scratch2 cc0_scratch3 cc0_scratch4 cc0_scratch5 cc0_scratch6 cc0_scratch7 cc0_scratch8
      c v2 v52 v124 v207 v548 c0_i32_474) (fun _ => St m ρ K c 39) := by
  rw [k0_part19_eq_skeleton]; unfold k0_part19_skel
  refine seq (send_blk m ρ K 36 (by revert c; decide +kernel)) fun _ => ?_
  refine seq (wait_rcv m ρ K 37 (by revert c; decide +kernel)) fun _ => ?_
  refine seq (send_blk m ρ K 38 (by revert c; decide +kernel)) fun _ => ?_
  exact stop _ .rfl

/-- The first hop round the ring, part 4 of 5. -/
theorem part20 (c : Dev nD) {hx : xM.IsWhole} {hv : (Memref.whole main_v1 : Memref sig .tc .hbm S65536x512 .f32).IsWhole} {v2 v52 v71 v124 v207 : BitVec 32} :
    St m ρ K c 39 ⊢ WP c (k0_part20 (F := F) xM hx (Memref.whole main_v1) hv cc0_scratch0 cc0_scratch1 cc0_scratch2 cc0_scratch3 cc0_scratch4 cc0_scratch5 cc0_scratch6 cc0_scratch7 cc0_scratch8
      c v2 v52 v71 v124 v207) (fun _ => St m ρ K c 42) := by
  rw [k0_part20_eq_skeleton]; unfold k0_part20_skel
  refine seq (wait_rcv m ρ K 39 (by revert c; decide +kernel)) fun _ => ?_
  refine seq (send_blk m ρ K 40 (by revert c; decide +kernel)) fun _ => ?_
  refine seq (wait_rcv m ρ K 41 (by revert c; decide +kernel)) fun _ => ?_
  exact stop _ .rfl

/-- The first hop round the ring, part 5 of 5. -/
theorem part21 (c : Dev nD) {hx : xM.IsWhole} {hv : (Memref.whole main_v1 : Memref sig .tc .hbm S65536x512 .f32).IsWhole} {v2 v71 v141 v207 : BitVec 32} :
    St m ρ K c 42 ⊢ WP c (k0_part21 (F := F) xM hx (Memref.whole main_v1) hv cc0_scratch0 cc0_scratch1 cc0_scratch2 cc0_scratch3 cc0_scratch4 cc0_scratch5 cc0_scratch6 cc0_scratch7 cc0_scratch8
      c v2 v71 v141 v207) (fun _ => St m ρ K c 46) := by
  rw [k0_part21_eq_skeleton]; unfold k0_part21_skel
  refine seq (send_blk m ρ K 42 (by revert c; decide +kernel)) fun _ => ?_
  refine seq (wait_rcv m ρ K 43 (by revert c; decide +kernel)) fun _ => ?_
  refine seq (send_blk m ρ K 44 (by revert c; decide +kernel)) fun _ => ?_
  refine seq (wait_rcv m ρ K 45 (by revert c; decide +kernel)) fun _ => ?_
  exact stop _ .rfl

end Cert.KernelIdeal.Gather

end
-- ==== Proof.KernelIdeal.Hop2.lean ====
/-
  The parts of the body, one after the other, each from its first step to its last. The second hop of every block round its plane's ring.
-/
module

public import proofs.«01_k».proof.Proof.KernelIdeal.Steps
public import proofs.«01_k».proof.Proof.Gen.KernelIdeal.Skeleton

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-- The second hop round the ring, part 1 of 5. -/
theorem part22 (c : Dev nD) {hx : xM.IsWhole} {hv : (Memref.whole main_v1 : Memref sig .tc .hbm S65536x512 .f32).IsWhole} {v2 v52 v71 v141 v223 c0_i32_548 : BitVec 32} :
    St m ρ K c 46 ⊢ WP c (k0_part22 (F := F) xM hx (Memref.whole main_v1) hv cc0_scratch0 cc0_scratch1 cc0_scratch2 cc0_scratch3 cc0_scratch4 cc0_scratch5 cc0_scratch6 cc0_scratch7 cc0_scratch8
      c v2 v52 v71 v141 v223 c0_i32_548) (fun _ => St m ρ K c 49) := by
  rw [k0_part22_eq_skeleton]; unfold k0_part22_skel
  refine seq (send_blk m ρ K 46 (by revert c; decide +kernel)) fun _ => ?_
  refine seq (wait_rcv m ρ K 47 (by revert c; decide +kernel)) fun _ => ?_
  refine seq (send_blk m ρ K 48 (by revert c; decide +kernel)) fun _ => ?_
  exact stop _ .rfl

/-- The second hop round the ring, part 2 of 5. -/
theorem part23 (c : Dev nD) {hx : xM.IsWhole} {hv : (Memref.whole main_v1 : Memref sig .tc .hbm S65536x512 .f32).IsWhole} {v2 v52 v141 v223 v670 : BitVec 32} :
    St m ρ K c 49 ⊢ WP c (k0_part23 (F := F) xM hx (Memref.whole main_v1) hv cc0_scratch0 cc0_scratch1 cc0_scratch2 cc0_scratch3 cc0_scratch4 cc0_scratch5 cc0_scratch6 cc0_scratch7 cc0_scratch8
      c v2 v52 v141 v223 v670) (fun _ => St m ρ K c 52) := by
  rw [k0_part23_eq_skeleton]; unfold k0_part23_skel
  refine seq (wait_rcv m ρ K 49 (by revert c; decide +kernel)) fun _ => ?_
  refine seq (send_blk m ρ K 50 (by revert c; decide +kernel)) fun _ => ?_
  refine seq (wait_rcv m ρ K 51 (by revert c; decide +kernel)) fun _ => ?_
  exact stop _ .rfl

/-- The second hop round the ring, part 3 of 5. -/
theorem part24 (c : Dev nD) {hx : xM.IsWhole} {hv : (Memref.whole main_v1 : Memref sig .tc .hbm S65536x512 .f32).IsWhole} {v2 v52 v71 v141 v223 : BitVec 32} :
    St m ρ K c 52 ⊢ WP c (k0_part24 (F := F) xM hx (Memref.whole main_v1) hv cc0_scratch0 cc0_scratch1 cc0_scratch2 cc0_scratch3 cc0_scratch4 cc0_scratch5 cc0_scratch6 cc0_scratch7 cc0_scratch8
      c v2 v52 v71 v141 v223) (fun _ => St m ρ K c 55) := by
  rw [k0_part24_eq_skeleton]; unfold k0_part24_skel
  refine seq (send_blk m ρ K 52 (by revert c; decide +kernel)) fun _ => ?_
  refine seq (wait_rcv m ρ K 53 (by revert c; decide +kernel)) fun _ => ?_
  refine seq (send_blk m ρ K 54 (by revert c; decide +kernel)) fun _ => ?_
  exact stop _ .rfl

/-- The second hop round the ring, part 4 of 5. -/
theorem part25 (c : Dev nD) {hx : xM.IsWhole} {hv : (Memref.whole main_v1 : Memref sig .tc .hbm S65536x512 .f32).IsWhole} {v2 v52 v71 v141 v223 v729 : BitVec 32} :
    St m ρ K c 55 ⊢ WP c (k0_part25 (F := F) xM hx (Memref.whole main_v1) hv cc0_scratch0 cc0_scratch1 cc0_scratch2 cc0_scratch3 cc0_scratch4 cc0_scratch5 cc0_scratch6 cc0_scratch7 cc0_scratch8
      c v2 v52 v71 v141 v223 v729) (fun _ => St m ρ K c 58) := by
  rw [k0_part25_eq_skeleton]; unfold k0_part25_skel
  refine seq (wait_rcv m ρ K 55 (by revert c; decide +kernel)) fun _ => ?_
  refine seq (send_blk m ρ K 56 (by revert c; decide +kernel)) fun _ => ?_
  refine seq (wait_rcv m ρ K 57 (by revert c; decide +kernel)) fun _ => ?_
  exact stop _ .rfl

/-- The second hop round the ring, part 5 of 5. -/
theorem part26 (c : Dev nD) {hx : xM.IsWhole} {hv : (Memref.whole main_v1 : Memref sig .tc .hbm S65536x512 .f32).IsWhole} {v2 v71 v158 v223 : BitVec 32} :
    St m ρ K c 58 ⊢ WP c (k0_part26 (F := F) xM hx (Memref.whole main_v1) hv cc0_scratch0 cc0_scratch1 cc0_scratch2 cc0_scratch3 cc0_scratch4 cc0_scratch5 cc0_scratch6 cc0_scratch7 cc0_scratch8
      c v2 v71 v158 v223) (fun _ => St m ρ K c 61) := by
  rw [k0_part26_eq_skeleton]; unfold k0_part26_skel
  refine seq (send_blk m ρ K 58 (by revert c; decide +kernel)) fun _ => ?_
  refine seq (wait_rcv m ρ K 59 (by revert c; decide +kernel)) fun _ => ?_
  refine seq (send_blk m ρ K 60 (by revert c; decide +kernel)) fun _ => ?_
  exact stop _ .rfl

end Cert.KernelIdeal.Gather

end
-- ==== Proof.KernelIdeal.Hop3.lean ====
/-
  The parts of the body, one after the other, each from its first step to its last. The third hop, the last arrivals and the first waits for departures.
-/
module

public import proofs.«01_k».proof.Proof.KernelIdeal.Steps
public import proofs.«01_k».proof.Proof.Gen.KernelIdeal.Skeleton

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-- The third hop round the ring, part 1 of 3. -/
theorem part27 (c : Dev nD) {hx : xM.IsWhole} {hv : (Memref.whole main_v1 : Memref sig .tc .hbm S65536x512 .f32).IsWhole} {v2 v52 v158 : BitVec 32} :
    St m ρ K c 61 ⊢ WP c (k0_part27 (F := F) xM hx (Memref.whole main_v1) hv cc0_scratch0 cc0_scratch1 cc0_scratch2 cc0_scratch3 cc0_scratch4 cc0_scratch5 cc0_scratch6 cc0_scratch7 cc0_scratch8
      c v2 v52 v158) (fun _ => St m ρ K c 64) := by
  rw [k0_part27_eq_skeleton]; unfold k0_part27_skel
  refine seq (wait_rcv m ρ K 61 (by revert c; decide +kernel)) fun _ => ?_
  refine seq (send_blk m ρ K 62 (by revert c; decide +kernel)) fun _ => ?_
  refine seq (wait_rcv m ρ K 63 (by revert c; decide +kernel)) fun _ => ?_
  exact stop _ .rfl

/-- The third hop round the ring, part 2 of 3. -/
theorem part28 (c : Dev nD) {hx : xM.IsWhole} {hv : (Memref.whole main_v1 : Memref sig .tc .hbm S65536x512 .f32).IsWhole} {v2 v71 v239 : BitVec 32} :
    St m ρ K c 64 ⊢ WP c (k0_part28 (F := F) xM hx (Memref.whole main_v1) hv cc0_scratch0 cc0_scratch1 cc0_scratch2 cc0_scratch3 cc0_scratch4 cc0_scratch5 cc0_scratch6 cc0_scratch7 cc0_scratch8
      c v2 v71 v239) (fun _ => St m ρ K c 68) := by
  rw [k0_part28_eq_skeleton]; unfold k0_part28_skel
  refine seq (send_blk m ρ K 64 (by revert c; decide +kernel)) fun _ => ?_
  refine seq (wait_rcv m ρ K 65 (by revert c; decide +kernel)) fun _ => ?_
  refine seq (send_blk m ρ K 66 (by revert c; decide +kernel)) fun _ => ?_
  refine seq (wait_rcv m ρ K 67 (by revert c; decide +kernel)) fun _ => ?_
  exact stop _ .rfl

/-- The third hop round the ring, part 3 of 3. -/
theorem part29 (c : Dev nD) {hx : xM.IsWhole} {hv : (Memref.whole main_v1 : Memref sig .tc .hbm S65536x512 .f32).IsWhole} {v2 v71 v175 v239 v849 c2048_i32_733 : BitVec 32} :
    St m ρ K c 68 ⊢ WP c (k0_part29 (F := F) xM hx (Memref.whole main_v1) hv cc0_scratch0 cc0_scratch1 cc0_scratch2 cc0_scratch3 cc0_scratch4 cc0_scratch5 cc0_scratch6 cc0_scratch7 cc0_scratch8
      c v2 v71 v175 v239 v849 c2048_i32_733) (fun _ => St m ρ K c 71) := by
  rw [k0_part29_eq_skeleton]; unfold k0_part29_skel
  refine seq (send_blk m ρ K 68 (by revert c; decide +kernel)) fun _ => ?_
  refine seq (wait_rcv m ρ K 69 (by revert c; decide +kernel)) fun _ => ?_
  refine seq (wait_rcv m ρ K 70 (by revert c; decide +kernel)) fun _ => ?_
  exact stop _ .rfl

/-- The last arrivals, part 1 of 2. -/
theorem part30 (c : Dev nD) {hx : xM.IsWhole} {hv : (Memref.whole main_v1 : Memref sig .tc .hbm S65536x512 .f32).IsWhole} {v2 v158 v239 v255 v878 : BitVec 32} :
    St m ρ K c 71 ⊢ WP c (k0_part30 (F := F) xM hx (Memref.whole main_v1) hv cc0_scratch0 cc0_scratch1 cc0_scratch2 cc0_scratch3 cc0_scratch4 cc0_scratch5 cc0_scratch6 cc0_scratch7 cc0_scratch8
      c v2 v158 v239 v255 v878) (fun _ => St m ρ K c 75) := by
  rw [k0_part30_eq_skeleton]; unfold k0_part30_skel
  refine seq (wait_rcv m ρ K 71 (by revert c; decide +kernel)) fun _ => ?_
  refine seq (wait_rcv m ρ K 72 (by revert c; decide +kernel)) fun _ => ?_
  refine seq (wait_rcv m ρ K 73 (by revert c; decide +kernel)) fun _ => ?_
  refine seq (wait_rcv m ρ K 74 (by revert c; decide +kernel)) fun _ => ?_
  exact stop _ .rfl

/-- The last arrivals, part 2 of 2. -/
theorem part31 (c : Dev nD) {hx : xM.IsWhole} {hv : (Memref.whole main_v1 : Memref sig .tc .hbm S65536x512 .f32).IsWhole} {v2 v158 v255 : BitVec 32} {v74 v75 : BitVec 1} :
    St m ρ K c 75 ⊢ WP c (k0_part31 (F := F) xM hx (Memref.whole main_v1) hv cc0_scratch0 cc0_scratch1 cc0_scratch2 cc0_scratch3 cc0_scratch4 cc0_scratch5 cc0_scratch6 cc0_scratch7 cc0_scratch8
      c v2 v74 v75 v158 v255) (fun _ => St m ρ K c 81) := by
  rw [k0_part31_eq_skeleton]; unfold k0_part31_skel
  refine seq (wait_rcv m ρ K 75 (by revert c; decide +kernel)) fun _ => ?_
  refine seq (wait_rcv m ρ K 76 (by revert c; decide +kernel)) fun _ => ?_
  refine seq (wait_dep m ρ K 77 (by revert c; decide +kernel)) fun _ => ?_
  refine seq (wait_dep m ρ K 78 (by revert c; decide +kernel)) fun _ => ?_
  refine cond m ρ K 79 (fun h => wait_dep m ρ K 79 (by revert h c; decide +kernel)) (by revert c; decide +kernel) ?_
  refine cond m ρ K 80 (fun h => wait_dep m ρ K 80 (by revert h c; decide +kernel)) (by revert c; decide +kernel) ?_
  exact stop _ .rfl

end Cert.KernelIdeal.Gather

end
-- ==== Proof.KernelIdeal.Away.lean ====
/-
  The parts of the body, one after the other, each from its first step to its last. The waits for departures.
-/
module

public import proofs.«01_k».proof.Proof.KernelIdeal.Steps
public import proofs.«01_k».proof.Proof.Gen.KernelIdeal.Skeleton

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

set_option maxHeartbeats 2000000 in
/-- The departures, part 1 of 4. -/
theorem part32 (c : Dev nD) {hx : xM.IsWhole} {hv : (Memref.whole main_v1 : Memref sig .tc .hbm S65536x512 .f32).IsWhole} {v295 v300 v326 v331 v357 v362 v388 v393 v419 v424 : BitVec 1} :
    St m ρ K c 81 ⊢ WP c (k0_part32 (F := F) xM hx (Memref.whole main_v1) hv cc0_scratch0 cc0_scratch1 cc0_scratch2 cc0_scratch3 cc0_scratch4 cc0_scratch5 cc0_scratch6 cc0_scratch7 cc0_scratch8
      c v295 v300 v326 v331 v357 v362 v388 v393 v419 v424) (fun _ => St m ρ K c 96) := by
  rw [k0_part32_eq_skeleton]; unfold k0_part32_skel
  refine cond m ρ K 81 (fun h => wait_dep m ρ K 81 (by revert h c; decide +kernel)) (by revert c; decide +kernel) ?_
  refine cond m ρ K 82 (fun h => wait_dep m ρ K 82 (by revert h c; decide +kernel)) (by revert c; decide +kernel) ?_
  refine cond m ρ K 83 (fun h => wait_dep m ρ K 83 (by revert h c; decide +kernel)) (by revert c; decide +kernel) ?_
  refine cond m ρ K 84 (fun h => wait_dep m ρ K 84 (by revert h c; decide +kernel)) (by revert c; decide +kernel) ?_
  refine cond m ρ K 85 (fun h => wait_dep m ρ K 85 (by revert h c; decide +kernel)) (by revert c; decide +kernel) ?_
  refine cond m ρ K 86 (fun h => wait_dep m ρ K 86 (by revert h c; decide +kernel)) (by revert c; decide +kernel) ?_
  refine cond m ρ K 87 (fun h => wait_dep m ρ K 87 (by revert h c; decide +kernel)) (by revert c; decide +kernel) ?_
  refine cond m ρ K 88 (fun h => wait_dep m ρ K 88 (by revert h c; decide +kernel)) (by revert c; decide +kernel) ?_
  refine cond m ρ K 89 (fun h => wait_dep m ρ K 89 (by revert h c; decide +kernel)) (by revert c; decide +kernel) ?_
  refine cond m ρ K 90 (fun h => wait_dep m ρ K 90 (by revert h c; decide +kernel)) (by revert c; decide +kernel) ?_
  refine cond m ρ K 91 (fun h => wait_dep m ρ K 91 (by revert h c; decide +kernel)) (by revert c; decide +kernel) ?_
  refine cond m ρ K 92 (fun h => wait_dep m ρ K 92 (by revert h c; decide +kernel)) (by revert c; decide +kernel) ?_
  refine cond m ρ K 93 (fun h => wait_dep m ρ K 93 (by revert h c; decide +kernel)) (by revert c; decide +kernel) ?_
  refine cond m ρ K 94 (fun h => wait_dep m ρ K 94 (by revert h c; decide +kernel)) (by revert c; decide +kernel) ?_
  refine cond m ρ K 95 (fun h => wait_dep m ρ K 95 (by revert h c; decide +kernel)) (by revert c; decide +kernel) ?_
  exact stop _ .rfl

/-- The departures, part 2 of 4. -/
theorem part33 (c : Dev nD) {hx : xM.IsWhole} {hv : (Memref.whole main_v1 : Memref sig .tc .hbm S65536x512 .f32).IsWhole} {v450 v455 : BitVec 1} :
    St m ρ K c 96 ⊢ WP c (k0_part33 (F := F) xM hx (Memref.whole main_v1) hv cc0_scratch0 cc0_scratch1 cc0_scratch2 cc0_scratch3 cc0_scratch4 cc0_scratch5 cc0_scratch6 cc0_scratch7 cc0_scratch8
      c v450 v455) (fun _ => St m ρ K c 103) := by
  rw [k0_part33_eq_skeleton]; unfold k0_part33_skel
  refine cond m ρ K 96 (fun h => wait_dep m ρ K 96 (by revert h c; decide +kernel)) (by revert c; decide +kernel) ?_
  refine cond m ρ K 97 (fun h => wait_dep m ρ K 97 (by revert h c; decide +kernel)) (by revert c; decide +kernel) ?_
  refine cond m ρ K 98 (fun h => wait_dep m ρ K 98 (by revert h c; decide +kernel)) (by revert c; decide +kernel) ?_
  refine seq (wait_dep m ρ K 99 (by revert c; decide +kernel)) fun _ => ?_
  refine seq (wait_dep m ρ K 100 (by revert c; decide +kernel)) fun _ => ?_
  refine seq (wait_dep m ρ K 101 (by revert c; decide +kernel)) fun _ => ?_
  refine seq (wait_dep m ρ K 102 (by revert c; decide +kernel)) fun _ => ?_
  exact stop _ .rfl

/-- The departures, part 3 of 4. -/
theorem part34 (c : Dev nD) {hx : xM.IsWhole} {hv : (Memref.whole main_v1 : Memref sig .tc .hbm S65536x512 .f32).IsWhole} :
    St m ρ K c 103 ⊢ WP c (k0_part34 (F := F) xM hx (Memref.whole main_v1) hv cc0_scratch0 cc0_scratch1 cc0_scratch2 cc0_scratch3 cc0_scratch4 cc0_scratch5 cc0_scratch6 cc0_scratch7 cc0_scratch8
      c ) (fun _ => St m ρ K c 109) := by
  rw [k0_part34_eq_skeleton]; unfold k0_part34_skel
  refine seq (wait_dep m ρ K 103 (by revert c; decide +kernel)) fun _ => ?_
  refine seq (wait_dep m ρ K 104 (by revert c; decide +kernel)) fun _ => ?_
  refine seq (wait_dep m ρ K 105 (by revert c; decide +kernel)) fun _ => ?_
  refine seq (wait_dep m ρ K 106 (by revert c; decide +kernel)) fun _ => ?_
  refine seq (wait_dep m ρ K 107 (by revert c; decide +kernel)) fun _ => ?_
  refine seq (wait_dep m ρ K 108 (by revert c; decide +kernel)) fun _ => ?_
  exact stop _ .rfl

/-- The departures, part 4 of 4. -/
theorem part35 (c : Dev nD) {hx : xM.IsWhole} {hv : (Memref.whole main_v1 : Memref sig .tc .hbm S65536x512 .f32).IsWhole} :
    St m ρ K c 109 ⊢ WP c (k0_part35 (F := F) xM hx (Memref.whole main_v1) hv cc0_scratch0 cc0_scratch1 cc0_scratch2 cc0_scratch3 cc0_scratch4 cc0_scratch5 cc0_scratch6 cc0_scratch7 cc0_scratch8
      c ) (fun _ => St m ρ K c 115) := by
  rw [k0_part35_eq_skeleton]; unfold k0_part35_skel
  refine seq (wait_dep m ρ K 109 (by revert c; decide +kernel)) fun _ => ?_
  refine seq (wait_dep m ρ K 110 (by revert c; decide +kernel)) fun _ => ?_
  refine seq (wait_dep m ρ K 111 (by revert c; decide +kernel)) fun _ => ?_
  refine seq (wait_dep m ρ K 112 (by revert c; decide +kernel)) fun _ => ?_
  refine seq (wait_dep m ρ K 113 (by revert c; decide +kernel)) fun _ => ?_
  refine seq (wait_dep m ρ K 114 (by revert c; decide +kernel)) fun _ => ?_
  exact stop _ .rfl

end Cert.KernelIdeal.Gather

end
-- ==== Proof.KernelIdeal.Body.lean ====
/-
  The whole body: its parts one after the other, from before the signals to after the last wait.
-/
module

public import proofs.«01_k».proof.Proof.KernelIdeal.Signals
public import proofs.«01_k».proof.Proof.KernelIdeal.Column
public import proofs.«01_k».proof.Proof.KernelIdeal.Hop1
public import proofs.«01_k».proof.Proof.KernelIdeal.Hop2
public import proofs.«01_k».proof.Proof.KernelIdeal.Hop3
public import proofs.«01_k».proof.Proof.KernelIdeal.Away

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cel → ℕ)

/-- Two programs, one after the other, where the second needs to know what the first returned. -/
theorem seq_know {F : FTy → Type} [FloatOps F] {c : Dev nD} {α β : Type} {p : Prog (TpuEff nD τ sig (Elt F) Λ₀ .tc) α}
    {f : α → Prog (TpuEff nD τ sig (Elt F) Λ₀ .tc) β} {φ : α → Prop}
    {P R : sProp (MT nD τ sig Unit (Elt F) ℕ UU ℕ)} {Q : β → sProp (MT nD τ sig Unit (Elt F) ℕ UU ℕ)}
    (hp : P ⊢ WP c p (fun a => iprop(⌜φ a⌝ ∗ R))) (hf : ∀ a, φ a → R ⊢ WP c (f a) Q) : P ⊢ WP c (p >>= f) Q := by
  unfold WP
  rw [wp_bind]
  refine hp.trans (wp_mono _ _ _ fun a => ?_)
  iintro ⟨%h, H⟩
  iapply (hf a h)
  iexact H
/-- What a program does not touch stays. -/
theorem keep {c : Dev nD} {α : Type} {p : Prog (TpuEff nD τ sig (Elt F) Λ₀ .tc) α} {P R : sProp 𝕄} {Q : α → sProp 𝕄} (h : P ⊢ WP c p Q) :
    iprop(P ∗ R) ⊢ WP c p (fun a => iprop(Q a ∗ R)) :=
  (sep_mono_l h).trans (wp_frame_r _ _ _)

/-- The parts from the barrier to the last waits but two. -/
theorem part36 (c : Dev nD) {hx : xM.IsWhole} {hv : (Memref.whole main_v1 : Memref sig .tc .hbm S65536x512 .f32).IsWhole} :
    Bar m ρ K c 0 ⊢ WP c (k0_part36 (F := F) xM hx (Memref.whole main_v1) hv cc0_scratch0 cc0_scratch1 cc0_scratch2 cc0_scratch3 cc0_scratch4 cc0_scratch5 cc0_scratch6 cc0_scratch7 cc0_scratch8)
      (fun r => iprop(⌜r = c⌝ ∗ (St m ρ K c 118 ∗ semVal (barCell c) 0))) := by
  rw [k0_part36_eq_skeleton]; unfold k0_part36_skel
  refine seq_know (part1 c) fun ⟨d0, _, v19, _, _, _, _⟩ h => ?_
  have e : d0 = c := h.1
  have e' : v19 = zw c := h.2
  clear h
  subst v19; subst d0
  refine seq (by rw [k0_part2_eq_skeleton]; exact stop _ .rfl) fun ⟨_, _, _, _, _, _⟩ => ?_
  refine seq (part3 m ρ K c) fun ⟨_, _, _, _, _, _⟩ => ?_
  refine (keep (Q := fun r => iprop(⌜r = c⌝ ∗ St m ρ K c 118)) ?_).trans (wp_mono _ _ _ fun r => sep_assoc.1)
  refine seq (by rw [k0_part4_eq_skeleton]; exact stop _ .rfl) fun ⟨_, _, _, _, _⟩ => ?_
  refine seq (by rw [k0_part5_eq_skeleton]; exact stop _ .rfl) fun ⟨_, _, _, _, _⟩ => ?_
  refine seq (by rw [k0_part6_eq_skeleton]; exact stop _ .rfl) fun ⟨_, _, _, _⟩ => ?_
  refine seq (by rw [k0_part7_eq_skeleton]; exact stop _ .rfl) fun ⟨_, _⟩ => ?_
  refine seq (by rw [k0_part8_eq_skeleton]; exact stop _ .rfl) fun ⟨_, _, _, _⟩ => ?_
  refine seq (by rw [k0_part9_eq_skeleton]; exact stop _ .rfl) fun ⟨_, _⟩ => ?_
  refine seq (part10 m ρ K c) fun ⟨_, _, _⟩ => ?_
  refine seq (part11 m ρ K c) fun ⟨_, _, _, _, _⟩ => ?_
  refine seq (part12 m ρ K c) fun ⟨_, _, _, _⟩ => ?_
  refine seq (part13 m ρ K c) fun ⟨_, _, _⟩ => ?_
  refine seq (part14 m ρ K c) fun ⟨_, _, _, _, _⟩ => ?_
  refine seq (part15 m ρ K c) fun ⟨_, _, _⟩ => ?_
  refine seq (part16 m ρ K c) fun ⟨_, _⟩ => ?_
  refine seq (part17 m ρ K c) fun _ => ?_
  refine seq (part18 m ρ K c) fun ⟨_, _⟩ => ?_
  refine seq (part19 m ρ K c) fun _ => ?_
  refine seq (part20 m ρ K c) fun _ => ?_
  refine seq (part21 m ρ K c) fun _ => ?_
  refine seq (part22 m ρ K c) fun _ => ?_
  refine seq (part23 m ρ K c) fun _ => ?_
  refine seq (part24 m ρ K c) fun _ => ?_
  refine seq (part25 m ρ K c) fun _ => ?_
  refine seq (part26 m ρ K c) fun _ => ?_
  refine seq (part27 m ρ K c) fun _ => ?_
  refine seq (part28 m ρ K c) fun ⟨_, _⟩ => ?_
  refine seq (part29 m ρ K c) fun _ => ?_
  refine seq (part30 m ρ K c) fun _ => ?_
  refine seq (part31 m ρ K c) fun _ => ?_
  refine seq (part32 m ρ K c) fun _ => ?_
  refine seq (part33 m ρ K c) fun _ => ?_
  refine seq (part34 m ρ K c) fun _ => ?_
  refine seq (part35 m ρ K c) fun _ => ?_
  refine seq (wait_dep m ρ K 115 (by revert c; decide +kernel)) fun _ => ?_
  refine seq (wait_dep m ρ K 116 (by revert c; decide +kernel)) fun _ => ?_
  refine seq (wait_dep m ρ K 117 (by revert c; decide +kernel)) fun _ => stop _ ?_
  iintro H
  isplitr
  · ipureintro; rfl
  · iexact H

/-- The body. -/
theorem body (c : Dev nD) {hx : xM.IsWhole} {hv : (Memref.whole main_v1 : Memref sig .tc .hbm S65536x512 .f32).IsWhole} :
    Bar m ρ K c 0 ⊢ WP c (cc0_body (F := F) xM hx (Memref.whole main_v1) hv cc0_scratch0 cc0_scratch1 cc0_scratch2 cc0_scratch3 cc0_scratch4 cc0_scratch5 cc0_scratch6 cc0_scratch7 cc0_scratch8)
      (fun _ => iprop(St m ρ K c END ∗ semVal (barCell c) 0)) := by
  rw [cc0_body_eq_skeleton]; unfold cc0_body_skel
  refine seq_know (part36 m ρ K c) fun d0 e => ?_
  subst d0
  refine keep ?_
  refine seq (wait_dep m ρ K 118 (by revert c; decide +kernel)) fun _ => ?_
  exact seq (copied m ρ K rfl) fun _ => stop _ .rfl

end Cert.KernelIdeal.Gather

end
-- ==== Proof.KernelIdeal.Ends.lean ====
/-
  The two ends of a device's run: what it starts from, made of what the launch gives it, and what is left when all its waits
  are over. At the start its memory falls into blocks and shares; at the end these are put together again.
-/
module

public import proofs.«01_k».proof.Proof.KernelIdeal.Signals

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## Taking sets apart -/

omit [FloatOps F] in
/-- The lanes of which a property holds, and the others. -/
theorem both (p : Lane → Bool) (Φ : Lane → sProp 𝕄) : bigSep Finset.univ Φ
    = iprop(bigSep (Finset.univ.filter fun k => p k = true) Φ ∗ bigSep (Finset.univ.filter fun k => p k = false) Φ) := by
  rw [← join (Finset.disjoint_left.2 fun k h h' => ?_)]
  · congr 1
    ext k; simp
  · simp only [Finset.mem_filter, Finset.mem_univ, true_and] at h h'
    rw [h] at h'; cases h'

omit [FloatOps F] in
/-- All blocks are a device's own and those that arrive. -/
theorem blocks (c : Dev nD) (Φ : Fin 32 → sProp 𝕄) : bigSep Finset.univ Φ
    = iprop(Φ c ∗ bigSep (Finset.univ.filter fun k => ract k (zOf c) = true) fun k => Φ (rorg k c)) := by
  rw [bigSep_univ_at Φ c, ← bigSep_image_of_injOn (f := fun k => rorg k c) (fun k hk k' hk' e => ?_) Φ]
  · congr 2
    ext b
    simp only [Finset.mem_erase, Finset.mem_univ, and_true, Finset.mem_image, Finset.mem_filter, true_and]
    constructor
    · exact fun h => ⟨_, rorg_all c b h⟩
    · rintro ⟨k, h, rfl⟩; exact rorg_ne c k h
  · have h := (Finset.mem_filter.1 (Finset.mem_coe.1 hk)).2
    have h' := (Finset.mem_filter.1 (Finset.mem_coe.1 hk')).2
    exact rorg_inj h h' e

/-- The gathered array of a device, block by block. -/
theorem whole (c : Dev nD) (f : Buf (Elt F) ((c : Thread nD τ).loc main_v1)) :
    (((c : Thread nD τ).loc main_v1) ↦{fullShare} f : sProp 𝕄)
      = bigSep Finset.univ fun b : Fin 32 => (blk b).view.loc (c : Thread nD τ) ↦[(blk b).view.set]{fullShare} f := by
  refine Eq.trans ?_ (pointsTo_biUnion (ℓ := (c : Thread nD τ).loc main_v1) Finset.univ (fun b : Fin 32 => (blk b).view.set) fun b _ b' _ h => blk_disj b b' h)
  rw [blk_all]

/-- The staged argument of a device, share by share. -/
theorem arg_row (c : Dev nD) : arg m ρ c fullShare = bigSep (row none) (piece m ρ c) := by
  unfold arg
  rw [ShareLeaves.pointsTo_leaves _ _ 3 fullShare, show row none = Finset.univ.map ⟨fun i : Fin (2 ^ 3) => ((none, i) : Piece), fun a b h => (Prod.ext_iff.1 h).2⟩ from ?_, bigSep_map]
  · rfl
  · ext p; rw [mem_row, Finset.mem_map]
    exact ⟨fun h => ⟨p.2, Finset.mem_univ _, Prod.ext h.symm rfl⟩, fun ⟨i, _, h⟩ => h ▸ rfl⟩
/-- Of the argument's shares one is for the local copy, and the others are at hand at the start. -/
theorem arg_start (c : Dev nD) : arg m ρ c fullShare = iprop(piece m ρ c (none, 4) ∗ bigSep (hand (zOf c) 0) (piece m ρ c)) := by
  rw [arg_row, hand_zero, ← put (Finset.notMem_erase _ _), Finset.insert_erase (mem_row.2 rfl)]

/-! ## The start -/

omit [FloatOps F] in
/-- A block has some contents. -/
theorem block_intro (b : Fin 32) (c : Dev nD) (f : Buf (Elt F) ((blk b).view.loc (c : Thread nD τ))) :
    (((blk b).view.loc (c : Thread nD τ) ↦[(blk b).view.set]{fullShare} f) : sProp 𝕄)
      ⊢ iprop(∃ f : Buf (Elt F) ((blk b).view.loc (c : Thread nD τ)), (blk b).view.loc (c : Thread nD τ) ↦[(blk b).view.set]{fullShare} f) := by
  iintro H; iexists f; iexact H
omit [FloatOps F] in
/-- A block is a landing block. -/
theorem land_intro (k : Lane) (c : Dev nD) (f : Buf (Elt F) ((c : Thread nD τ).loc main_v1)) :
    ((blk (rorg k c)).view.loc (c : Thread nD τ) ↦[(blk (rorg k c)).view.set]{fullShare} f : sProp 𝕄) ⊢ land k c := by
  unfold land
  iintro H; iexists f; iexact H
omit [FloatOps F] in
/-- The landing blocks of a device, by the signals that hand them over. -/
theorem lands (c : Dev nD) : (bigSep (Finset.univ.filter fun k => ract k (zOf c) = true) fun k => (land k c : sProp 𝕄))
    = bigSep (later 0) fun s => barPay (pays c s).1 (pays c s).2 := by
  rw [lanes_pays, BI.bigSep_biUnion_eq _ _ _ fun s _ s' _ h => lanes_disj c s s' h]
  refine bigSep_congr fun s _ => ?_
  unfold barPay
  exact bigSep_congr fun k hk => by rw [lanes_tgt c s k hk]
/-- What a device has of its gathered array at the start: its own block, and the landing blocks its signals hand over. -/
theorem array_start (c : Dev nD) (f : Buf (Elt F) ((c : Thread nD τ).loc main_v1)) :
    (((c : Thread nD τ).loc main_v1) ↦{fullShare} f : sProp 𝕄)
      ⊢ iprop((∃ f : Buf (Elt F) ((blk c).view.loc (c : Thread nD τ)), (blk c).view.loc (c : Thread nD τ) ↦[(blk c).view.set]{fullShare} f)
        ∗ bigSep (later 0) fun s => barPay (pays c s).1 (pays c s).2) := by
  rw [whole, blocks c, ← lands c]
  exact BI.sep_mono (block_intro c c f) (bigSep_mono fun k _ => land_intro k c f)

/-- The counters of the lanes a device does not use. -/
def idle (c : Dev nD) : sProp 𝕄 :=
  iprop((bigSep (Finset.univ.filter fun k => act k (zOf c) = false) fun k => semVal (sCell k c) 0)
    ∗ bigSep (Finset.univ.filter fun k => ract k (zOf c) = false) fun k => semVal (rCell k c) 0)

/-- What a device starts from, but for its argument and its debt. -/
def start (c : Dev nD) : sProp 𝕄 :=
  iprop((∃ K, recs m ρ K) ∗ levAts L lv ∗ bigSep (later 0) (call c) ∗ cred (tallyAt (barCell c) () 4) ∗ atPos ER (barCell c) 0 (∅ : Finset (Fin 4)) 0
    ∗ bigSep (unsent (zOf c) 0) (pend' c) ∗ bigSep (due (zOf c) 0) (exp c)
    ∗ ((∃ f : Buf (Elt F) ((blk c).view.loc (c : Thread nD τ)), (blk c).view.loc (c : Thread nD τ) ↦[(blk c).view.set]{fullShare} f)
      ∗ dutyTok ER (cCell c) 0 (0 : Fin 4) ∗ atPos ER (cCell c) 0 (∅ : Finset (Fin 4)) 0)
    ∗ idle c)

/-- With its argument and its debt it can begin. -/
theorem begin (c : Dev nD) (W : Waits sig Unit) : iprop(start m ρ c ∗ owes (c : Thread nD τ) (O₀ c) W ∗ arg m ρ c fullShare)
    ⊢ iprop(∃ K, Bar m ρ K c 0 ∗ idle (F := F) c) := by
  rw [arg_start, O₀_eq]
  unfold start
  iintro ⟨⟨⟨%K, HR⟩, HL, Hcall, Hcr, Hat, Hp, He, ⟨Hb, Ht, Hc⟩, Hi⟩, HO, Ha, Hh⟩
  iexists K
  isplitr [Hi]
  · unfold Bar rest copying
    rw [if_pos rfl]
    isplitl [HR]; · iexact HR
    isplitl [HL]; · iexact HL
    isplitl [HO]; · iexists W; iexact HO
    isplitl [Hcall]; · iexact Hcall
    isplitl [Hcr]; · iexact Hcr
    isplitl [Hat]; · iexact Hat
    isplitl [Hp]; · iexact Hp
    isplitl [He]; · iexact He
    isplitl [Hh]; · iexact Hh
    isplitl [Hb]; · iexact Hb
    isplitl [Ha]; · iexact Ha
    isplitl [Ht] <;> iassumption
  · iexact Hi

/-! ## The end -/

/-- All shares of all blocks, put together: the argument, and the blocks that arrived. -/
theorem pieces_end (c : Dev nD) :
    iprop(piece m ρ c (none, 4) ∗ bigSep (hand (zOf c) END) (piece m ρ c) ∗ bigSep (gone (zOf c) END) fun k => piece m ρ c (lent k (zOf c)))
      = iprop(arg m ρ c fullShare ∗ bigSep (came (zOf c) END) fun k => done m ρ c (rorg k c) fullShare) := by
  rw [← bigSep_image_of_injOn (f := fun k => lent k (zOf c)) (fun k hk k' hk' e => ?_) (piece m ρ c), ← join (held_disjoint (zOf c)), ← held_eq,
    ← put (show ((none, 4) : Piece) ∉ held (zOf c) from by simp [held]), held_insert, join (Finset.disjoint_left.2 fun p h h' => ?_),
    BI.bigSep_biUnion_eq _ _ _ fun k _ k' _ h => Finset.disjoint_left.2 fun p h1 h2 => ?_, ← arg_row,
    bigSep_congr fun k _ => (done_row m ρ c k).symm]
  · exact h (Option.some.inj ((mem_row.1 h1).symm.trans (mem_row.1 h2)))
  · obtain ⟨k, -, hk⟩ := Finset.mem_biUnion.1 h'
    exact absurd ((mem_row.1 h).symm.trans (mem_row.1 hk)) (by simp)
  · rw [gone_end] at hk hk'
    exact lent_inj (Finset.mem_filter.1 (Finset.mem_coe.1 hk)).2 (Finset.mem_filter.1 (Finset.mem_coe.1 hk')).2 e

/-- All blocks, put together: the gathered array. -/
theorem array_end (c : Dev nD) :
    iprop(done m ρ c c fullShare ∗ bigSep (came (zOf c) END) fun k => done m ρ c (rorg k c) fullShare)
      = (((c : Thread nD τ).loc main_v1) ↦{fullShare} (G m ρ : Buf (Elt F) ((c : Thread nD τ).loc main_v1)) : sProp 𝕄) := by
  rw [whole, blocks c, came_end]; rfl

/-- The counters of all lanes' semaphores and of the local copy's, at zero. -/
def zeros (c : Dev nD) : sProp 𝕄 :=
  iprop(semVal (cCell c) 0 ∗ (bigSep Finset.univ fun k => semVal (sCell k c) 0) ∗ bigSep Finset.univ fun k => semVal (rCell k c) 0)

/-- What a device ends with. -/
theorem finish (c : Dev nD) : (iprop((∃ K, St m ρ K c END) ∗ idle c) : sProp 𝕄)
    ⊢ iprop((((c : Thread nD τ).loc main_v1) ↦{fullShare} (G m ρ : Buf (Elt F) ((c : Thread nD τ).loc main_v1))) ∗ zeros c
        ∗ (∃ W, owes (c : Thread nD τ) 0 W) ∗ arg m ρ c fullShare) := by
  have hback : bigSep (gone (zOf c) END) (back m ρ c)
      = iprop((bigSep (gone (zOf c) END) fun k => semVal (sCell k c) 0) ∗ bigSep (gone (zOf c) END) fun k => piece m ρ c (lent k (zOf c))) := by
    rw [← bigSep_sep']; rfl
  unfold zeros
  rw [← array_end, both (fun k => act k (zOf c)) fun k => semVal (sCell k c) 0, both (fun k => ract k (zOf c)) fun k => semVal (rCell k c) 0,
    ← gone_end, ← came_end]
  unfold St Has idle copying cpyPay
  rw [show phase END = 2 from rfl]
  simp only [now]
  rw [hback, unsent_end, show ows c ∅ = 0 from rfl, if_neg (by decide), if_neg (by decide)]
  iintro ⟨⟨%K, -, -, HO, -, -, -, ⟨Hs, Hg⟩, Hr, Hh, Hc, Hd, Ha⟩, Hsi, Hri⟩
  ihave Hall := (Entails.of_eq (pieces_end m ρ c)) $$ [Ha Hh Hg]
  · isplitl [Ha]; · iexact Ha
    isplitl [Hh] <;> iassumption
  icases Hall with ⟨Harg, Hcame⟩
  isplitl [Hd Hcame]
  · isplitl [Hd] <;> iassumption
  isplitr [HO Harg]
  · isplitl [Hc]; · iexact Hc
    isplitl [Hs Hsi]
    · isplitl [Hs] <;> iassumption
    isplitl [Hr]
    · iapply (Entails.of_eq (bigSep_congr fun k _ => zero.eq_def c k)); iexact Hr
    · iexact Hri
  isplitl [HO] <;> iassumption

end Cert.KernelIdeal.Gather

end
-- ==== Proof.KernelIdeal.Tokens.lean ====
/-
  The protocol's ghost state at launch: one round at every cell, its duties' tokens dealt to the devices that pay them, the
  invariants of all cells allocated together, and the credit of every wait matched with what the devices owe.
-/
module

public import proofs.«01_k».proof.Proof.KernelIdeal.Ends
public import proofs.«01_k».proof.Proof.Gen.KernelIdeal.Launch

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## Minting -/

/-- Distinct names of cells are distinct cells. -/
theorem kcell_inj : Function.Injective (kcell : Dev nD × Cel → GSem nD τ sig) := by
  rintro ⟨c, i⟩ ⟨c', i'⟩ h
  have h1 : c = c' := congrArg (fun g : GSem nD τ sig => g.1.1) h
  have h2 : i = i' := isem_inj (congrArg Prod.snd h)
  rw [h1, h2]
/-- All cells. -/
def cells : Finset (GSem nD τ sig) := Finset.univ.map ⟨kcell, kcell_inj⟩

/-- A device's duties: its barrier's four, and one for every other cell. -/
abbrev Tok : Type := Fin 4 ⊕ Own
/-- Each with its cell, round and number. -/
def tok (p : Dev nD × Tok) : GSem nD τ sig × ℕ × Fin 4 :=
  match p.2 with
  | .inl d => (kcell (p.1, iB), 0, d)
  | .inr o => (kcell (p.1, .inr o), 0, 0)
/-- Distinct duties are distinct there. -/
theorem tok_inj : Function.Injective tok := by
  rintro ⟨c, t⟩ ⟨c', t'⟩ h
  have hk : (tok (c, t)).1 = (tok (c', t')).1 := congrArg Prod.fst h
  have hd : (tok (c, t)).2.2 = (tok (c', t')).2.2 := congrArg (fun x => x.2.2) h
  rcases t with d | o <;> rcases t' with d' | o' <;> dsimp only [tok] at hk hd <;> have e := kcell_inj hk <;> cases e
  · rw [hd]
  · rfl
/-- All duties. -/
def allToks : Finset (GSem nD τ sig × ℕ × Fin 4) := Finset.univ.map ⟨tok, tok_inj⟩

/-- What the launch puts into the ghost state. -/
def u₀ : UU :=
  (initOf (Pipeline.cells cfgs cellOf_inj) (Pipeline.launchToks cfgs cellOf_inj), initOf cells allToks)

/-- The tokens of the duties at device `c`'s cells. -/
def toks (c : Dev nD) : sProp 𝕄 := bigSep Finset.univ fun t : Tok => dutyTok ER (tok (c, t)).1 (tok (c, t)).2.1 (tok (c, t)).2.2
/-- What the launch deals to device `c`. -/
def deal (c : Dev nD) : sProp 𝕄 :=
  iprop((bigSep Finset.univ fun i : Cel => roundState ER (sched m ρ) (kcell (c, i)) 0)
    ∗ (bigSep Finset.univ fun i : Cel => reached ER (kcell (c, i)) 0) ∗ (bigSep Finset.univ fun i : Cel => atPos ER (kcell (c, i)) 0 (∅ : Finset (Fin 4)) 0)
    ∗ toks c)

omit [FloatOps F] in
/-- The ghost state is dealt to the devices. -/
theorem deal_all : BI.own (ER (initOf cells allToks)) ⊢ (|==> bigSep Finset.univ (deal m ρ) : sProp 𝕄) := by
  have hX (Φ : GSem nD τ sig → sProp 𝕄) : bigSep cells Φ = bigSep Finset.univ fun c : Dev nD => bigSep Finset.univ fun i : Cel => Φ (kcell (c, i)) := by
    unfold cells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  have e : bigSep Finset.univ (deal m ρ) = iprop((bigSep cells fun g => roundState ER (sched m ρ) g 0) ∗ (bigSep cells fun g => reached ER g 0)
      ∗ (bigSep cells fun g => atPos ER g 0 (∅ : Finset (Fin 4)) 0) ∗ bigSep allToks fun x => dutyTok ER x.1 x.2.1 x.2.2) := by
    unfold deal
    simp only [bigSep_sep', hX, hT]
  rw [e]
  exact Rounds.fund ER (sched m ρ) cells allToks

/-! ## The invariants -/

omit [FloatOps F] in
/-- The cells of a device one kind after the other. -/
theorem cel_split (Φ : Cel → sProp 𝕄) : bigSep Finset.univ Φ
    = iprop(Φ iB ∗ Φ iC ∗ (bigSep Finset.univ fun k => Φ (iS k)) ∗ bigSep Finset.univ fun k => Φ (iR k)) := by
  rw [bigSep_univ_sum, bigSep_univ_sum, bigSep_univ_sum, bigSep_univ_of_subsingleton (), bigSep_univ_of_subsingleton ()]
  rfl

omit [FloatOps F] in
/-- The kernel's own counters are the local copy's and the lanes'. -/
theorem own_zero (c : Dev nD) : (Pipeline.ownSems0 (Ix := Unit) (Name := ℕ) (U := UU) (Lvl := ℕ) (Val := Elt F) (τ := τ) osem c : sProp 𝕄) = zeros c := by
  unfold Pipeline.ownSems0 zeros
  rw [bigSep_univ_sum, bigSep_univ_sum, bigSep_univ_of_subsingleton ()]; rfl
omit [FloatOps F] in
/-- The counter that outlives the kernel is the barrier's. -/
theorem bar_zero (c : Dev nD) : (unscopedSems0 c : sProp 𝕄) = semVal (barCell c) 0 := by
  unfold unscopedSems0; rw [bigSep_eq_bigSepL_of_eq [SemLoc.reg barS] (by decide) (by decide)]; rfl

/-- One device's part of the allocation: the cells' invariants from the counters and the rounds. -/
def opened (c : Dev nD) : sProp 𝕄 :=
  iprop((bigSep Finset.univ fun i : Cel => iprop(∃ κ : ℕ, cellInv ER (sched m ρ) κ (kcell (c, i))))
    ∗ (bigSep Finset.univ fun i : Cel => reached ER (kcell (c, i)) 0) ∗ (bigSep Finset.univ fun i : Cel => atPos ER (kcell (c, i)) 0 (∅ : Finset (Fin 4)) 0)
    ∗ toks c)
omit [FloatOps F] in
/-- It is made from what the device is dealt. -/
theorem open_one (c : Dev nD) :
    iprop(Pipeline.ownSems0 (Ix := Unit) (Name := ℕ) (U := UU) (Lvl := ℕ) (Val := Elt F) (τ := τ) osem c ∗ unscopedSems0 c ∗ deal m ρ c)
      ⊢ |={Set.univ}=> opened m ρ c := by
  have hv : (bigSep Finset.univ fun i : Cel => semVal (kcell (c, i)) 0 : sProp 𝕄) = iprop(semVal (barCell c) 0 ∗ zeros c) := cel_split _
  have hinv : iprop((bigSep Finset.univ fun i : Cel => semVal (kcell (c, i)) 0) ∗ bigSep Finset.univ fun i : Cel => roundState ER (sched m ρ) (kcell (c, i)) 0)
      ⊢ (|={Set.univ}=> bigSep Finset.univ fun i : Cel => iprop(∃ κ : ℕ, cellInv ER (sched m ρ) κ (kcell (c, i))) : sProp 𝕄) := by
    rw [← bigSep_sep']
    exact (bigSep_mono fun i _ => (Rounds.body_intro ER (sched m ρ) (kcell (c, i))).trans inv_alloc).trans (bigSep_fupd _ _)
  rw [own_zero, bar_zero]
  unfold deal opened
  iintro ⟨Hz, Hb, Hst, Hrest⟩
  imod hinv $$ [Hz Hb Hst] with Hinv
  · isplitl [Hz Hb]
    · iapply (Entails.of_eq hv.symm)
      isplitl [Hb] <;> iassumption
    · iexact Hst
  imodintro
  isplitl [Hinv] <;> iassumption

/-! ## Who pays -/

/-- Following a group of lanes is a permutation of the devices. -/
def tgtEquiv (j : Fin 4) : Dev nD ≃ Dev nD := ⟨tgt j, frm j, frm_tgt j, tgt_frm j⟩
/-- So is following each lane, of devices with lanes. -/
def laneEquiv : Dev nD × Lane ≃ Dev nD × Lane where
  toFun p := (tgt (grp p.2) p.1, p.2)
  invFun p := (frm (grp p.2) p.1, p.2)
  left_inv p := by rw [Prod.ext_iff]; exact ⟨frm_tgt _ _, rfl⟩
  right_inv p := by rw [Prod.ext_iff]; exact ⟨tgt_frm _ _, rfl⟩

/-- The tokens of the duties that device `c` pays: its four signals, its local copy, its departures, and the arrivals that
    it causes. -/
def payToks (c : Dev nD) : sProp 𝕄 :=
  iprop((bigSep Finset.univ fun s : Fin 4 => dutyTok ER (barCell (pays c s).1) 0 (pays c s).2) ∗ dutyTok ER (cCell c) 0 (0 : Fin 4)
    ∗ (bigSep Finset.univ fun k => dutyTok ER (sCell k c) 0 (0 : Fin 4)) ∗ bigSep Finset.univ fun k => dutyTok ER (rCell k (tgt (grp k) c)) 0 (0 : Fin 4))

omit [FloatOps F] in
/-- The tokens of a device's cells, kind by kind. -/
theorem toks_split (c : Dev nD) : (toks c : sProp 𝕄) = iprop((bigSep Finset.univ fun d : Fin 4 => dutyTok ER (barCell c) 0 d) ∗ dutyTok ER (cCell c) 0 (0 : Fin 4)
    ∗ (bigSep Finset.univ fun k => dutyTok ER (sCell k c) 0 (0 : Fin 4)) ∗ bigSep Finset.univ fun k => dutyTok ER (rCell k c) 0 (0 : Fin 4)) := by
  unfold toks
  rw [bigSep_univ_sum, bigSep_univ_sum, bigSep_univ_sum, bigSep_univ_of_subsingleton ()]; rfl
omit [FloatOps F] in
/-- All duties are paid by someone. -/
theorem toks_around : (bigSep Finset.univ fun c : Dev nD => (toks c : sProp 𝕄)) = bigSep Finset.univ fun c : Dev nD => payToks c := by
  have hb : (bigSep Finset.univ fun c : Dev nD => bigSep Finset.univ fun d : Fin 4 => (dutyTok ER (barCell c) 0 d : sProp 𝕄))
      = bigSep Finset.univ fun c : Dev nD => bigSep Finset.univ fun s : Fin 4 => dutyTok ER (barCell (pays c s).1) 0 (pays c s).2 := by
    rw [← bigSep_univ_prod (fun p : Dev nD × Fin 4 => (dutyTok ER (barCell p.1) 0 p.2 : sProp 𝕄)), bigSep_univ_equiv payEquiv, bigSep_univ_prod]; rfl
  have hr : (bigSep Finset.univ fun c : Dev nD => bigSep Finset.univ fun k : Lane => (dutyTok ER (rCell k c) 0 (0 : Fin 4) : sProp 𝕄))
      = bigSep Finset.univ fun c : Dev nD => bigSep Finset.univ fun k : Lane => dutyTok ER (rCell k (tgt (grp k) c)) 0 (0 : Fin 4) := by
    rw [← bigSep_univ_prod (fun p : Dev nD × Lane => (dutyTok ER (rCell p.2 p.1) 0 (0 : Fin 4) : sProp 𝕄)), bigSep_univ_equiv laneEquiv, bigSep_univ_prod]; rfl
  rw [bigSep_congr fun c _ => toks_split c]
  unfold payToks
  simp only [bigSep_sep']
  rw [hb, hr]

/-- What stays with device `c`: its places at its own cells, and the tokens of the duties it pays. -/
def mine (c : Dev nD) : sProp 𝕄 := iprop((bigSep Finset.univ fun i : Cel => atPos ER (kcell (c, i)) 0 (∅ : Finset (Fin 4)) 0) ∗ payToks c)
/-- With the records of all cells. -/
def given (c : Dev nD) : sProp 𝕄 := iprop(∃ K, recs m ρ K ∗ mine c)

omit [FloatOps F] in
/-- The records are for all devices. -/
theorem given_intro (K : Dev nD × Cel → ℕ) (c : Dev nD) : iprop(recs m ρ K ∗ mine c) ⊢ given m ρ c := by
  unfold given
  iintro H; iexists K; iexact H
omit [FloatOps F] in
/-- The devices' parts together give each what it starts from. -/
theorem give : bigSep Finset.univ (opened m ρ) ⊢ bigSep Finset.univ (given m ρ) := by
  have h : bigSep Finset.univ (opened m ρ) = iprop((bigSep Finset.univ fun p : Dev nD × Cel => iprop(∃ κ : ℕ, cellInv ER (sched m ρ) κ (kcell p)))
      ∗ (bigSep Finset.univ fun p : Dev nD × Cel => reached ER (kcell p) 0) ∗ bigSep Finset.univ fun c : Dev nD => mine c) := by
    unfold opened mine
    simp only [bigSep_sep']
    rw [toks_around, bigSep_univ_prod, bigSep_univ_prod]
  rw [h]
  iintro ⟨HI, #HR, Hm⟩
  ihave HK := (BI.bigSep_exists_pi Finset.univ (fun (p : Dev nD × Cel) (κ : ℕ) => (cellInv ER (sched m ρ) κ (kcell p) : sProp 𝕄))) $$ HI
  icases HK with ⟨%K, #HI⟩
  iapply (bigSep_with_persistent (R := recs m ρ K) fun c _ => given_intro m ρ K c)
  isplitr
  · iapply (Entails.of_eq (recs.eq_def m ρ K).symm)
    iapply (Entails.of_eq (bigSep_sep' _ _ _).symm)
    isplitr
    · iexact HI
    · iexact HR
  · iexact Hm

omit [FloatOps F] in
/-- The whole step, for all devices at once. -/
theorem glob : (bigSep Finset.univ fun c => iprop(Pipeline.ownSems0 (Ix := Unit) (Name := ℕ) (U := UU) (Lvl := ℕ) (Val := Elt F) (τ := τ) osem c ∗ unscopedSems0 c ∗ deal m ρ c) : sProp 𝕄)
    ⊢ |={Set.univ}=> bigSep Finset.univ (given m ρ) :=
  ((bigSep_mono fun c _ => open_one m ρ c).trans (bigSep_fupd _ _)).trans (BI.fupd_mono (give m ρ))

/-! ## The credit -/

/-- What device `c` waits for, on credit of the launch: four signals, and its arrivals. -/
def waitsFor (c : Dev nD) : CellTallies nD τ sig Unit := (∑ k ∈ due (zOf c) 0, tallyAt (rCell k c) () N) + tallyAt (barCell c) () 4

/-- The arrivals owed are the arrivals waited for; -/
theorem sum_arrivals : ∑ c : Dev nD, ows c (unsent (zOf c) 0) = ∑ c : Dev nD, ∑ k ∈ due (zOf c) 0, (tallyAt (rCell k c) () N : CellTallies nD τ sig Unit) := by
  unfold ows
  simp only [unsent_zero, due_zero, Finset.sum_filter]
  rw [Finset.sum_comm, Finset.sum_comm (s := Finset.univ) (t := Finset.univ) (f := fun (c : Dev nD) (k : Lane) => if ract k (zOf c) = true then (tallyAt (rCell k c) () N : CellTallies nD τ sig Unit) else 0)]
  refine Finset.sum_congr rfl fun k _ => ?_
  rw [← Equiv.sum_comp (tgtEquiv (grp k)) fun c : Dev nD => if ract k (zOf c) = true then (tallyAt (rCell k c) () N : CellTallies nD τ sig Unit) else 0]
  exact Finset.sum_congr rfl fun c _ => by
    show _ = if ract k (zOf (tgt (grp k) c)) = true then (tallyAt (rCell k (tgt (grp k) c)) () N : CellTallies nD τ sig Unit) else 0
    rw [ract_tgt]
/-- the signals owed are the signals waited for; -/
theorem sum_signals : ∑ c : Dev nD, bows c (later 0) = ∑ c : Dev nD, (tallyAt (barCell c) () 4 : CellTallies nD τ sig Unit) := by
  unfold bows bow
  rw [show later 0 = Finset.univ from by decide, ← Fintype.sum_prod_type' fun (c : Dev nD) (s : Fin 4) => (tallyAt (barCell (pays c s).1) () 1 : CellTallies nD τ sig Unit)]
  refine (Equiv.sum_comp payEquiv fun p : Dev nD × Fin 4 => (tallyAt (barCell p.1) () 1 : CellTallies nD τ sig Unit)).trans ?_
  rw [Fintype.sum_prod_type]
  refine Finset.sum_congr rfl fun c _ => ?_
  rw [Fin.sum_univ_four, tallyAt_add, tallyAt_add, tallyAt_add]
/-- so all that is owed is waited for. -/
theorem sum_owed : ∑ c : Dev nD, O₀ c = ∑ c : Dev nD, waitsFor c := by
  unfold waitsFor
  rw [Finset.sum_congr rfl fun c _ => O₀_eq c, Finset.sum_add_distrib, Finset.sum_add_distrib, sum_arrivals, sum_signals]
/-- What a device waits for is at its own cells. -/
theorem waitsFor_own (c : Dev nD) (g : GSem nD τ sig) (h : waitsFor c g ≠ 0) : g.1 = (c.tc : Thread nD τ) := by
  by_contra hg
  refine h ?_
  unfold waitsFor
  rw [Pi.add_apply, Finset.sum_apply, tallyAt_ne_cell (show g ≠ barCell c from fun e => hg (congrArg Prod.fst e)), add_zero]
  exact Finset.sum_eq_zero fun k _ => tallyAt_ne_cell (show g ≠ rCell k c from fun e => hg (congrArg Prod.fst e)) () N

omit [FloatOps F] in
/-- A device's credit at launch. -/
theorem credit (c : Dev nD) : (Pipeline.launchCred O₀ c : sProp 𝕄)
    = iprop((bigSep (due (zOf c) 0) fun k => cred (tallyAt (rCell k c) () N)) ∗ cred (tallyAt (barCell c) () 4)) := by
  rw [Pipeline.launchCred_of_sum O₀ waitsFor sum_owed waitsFor_own, ← Pipeline.cred_finsetSum]
  exact BI.Entails.antisymm (cred_add _ _).1 (cred_add _ _).2

end Cert.KernelIdeal.Gather

end
-- ==== Proof.KernelIdeal.Run.lean ====
/-
  The run of the whole program: every weakly fair execution ends with the gathered array on each device, the argument as it
  was and every counter at zero.
-/
module

public import proofs.«01_k».proof.Proof.KernelIdeal.Body
public import proofs.«01_k».proof.Proof.KernelIdeal.Tokens
public import proofs.«01_k».proof.Proof.Gen.KernelIdeal.Points
public import Idealize.ShloMosaic.Lib.Pipeline.CollectiveSegs

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-! ## From the launch to the start -/

variable (K : Dev nD × Cel → ℕ) in
/-- A cell that has no duties is closed at once. -/
theorem close_one (p : Dev nD × Cel) (h : ∀ r, 0 ≤ r → (sched (F := F) m ρ).duties (kcell p) r = ∅) :
    iprop(recs m ρ K ∗ atPos ER (kcell p) 0 (∅ : Finset (Fin 4)) 0) ⊢ (|={Set.univ}=> semVal (kcell p) 0 : sProp 𝕄) := by
  iintro ⟨#HR, Hat⟩
  ihave #HV := (recs_at m ρ K p) $$ HR
  icases HV with ⟨#HVi, -⟩
  iapply (Rounds.cell_close ER (sched m ρ) (Set.mem_univ (K p)) (fun h => h) (R := 0) h)
  isplitr
  · iexact HVi
  · iexact Hat
variable (K : Dev nD × Cel → ℕ) in
/-- So are the cells of the lanes that a device does not use. -/
theorem close_idle (c : Dev nD) :
    iprop(recs m ρ K ∗ (bigSep (Finset.univ.filter fun k => act k (zOf c) = false) fun k => atPos ER (sCell k c) 0 (∅ : Finset (Fin 4)) 0)
      ∗ bigSep (Finset.univ.filter fun k => ract k (zOf c) = false) fun k => atPos ER (rCell k c) 0 (∅ : Finset (Fin 4)) 0)
      ⊢ (|={Set.univ}=> idle c : sProp 𝕄) := by
  have hs : iprop(recs m ρ K ∗ bigSep (Finset.univ.filter fun k => act k (zOf c) = false) fun k => atPos ER (sCell k c) 0 (∅ : Finset (Fin 4)) 0)
      ⊢ (|={Set.univ}=> bigSep (Finset.univ.filter fun k => act k (zOf c) = false) fun k => semVal (sCell k c) 0 : sProp 𝕄) :=
    (bigSep_with_persistent fun k hk => close_one m ρ K (c, iS k) (duties_snd_none m ρ c k (Finset.mem_filter.1 hk).2)).trans (bigSep_fupd _ _)
  have hr : iprop(recs m ρ K ∗ bigSep (Finset.univ.filter fun k => ract k (zOf c) = false) fun k => atPos ER (rCell k c) 0 (∅ : Finset (Fin 4)) 0)
      ⊢ (|={Set.univ}=> bigSep (Finset.univ.filter fun k => ract k (zOf c) = false) fun k => semVal (rCell k c) 0 : sProp 𝕄) :=
    (bigSep_with_persistent fun k hk => close_one m ρ K (c, iR k) (duties_rcv_none m ρ c k (Finset.mem_filter.1 hk).2)).trans (bigSep_fupd _ _)
  unfold idle
  iintro ⟨#HR, Hs, Hr⟩
  imod hs $$ [Hs] with Hs
  · isplitr
    · iexact HR
    · iexact Hs
  imod hr $$ [Hr] with Hr
  · isplitr
    · iexact HR
    · iexact Hr
  imodintro
  isplitl [Hs] <;> iassumption

omit [FloatOps F] in
/-- The lanes to be sent on are those a device uses, -/
theorem lanes_pend (c : Dev nD) : iprop((bigSep Finset.univ fun k => dutyTok ER (sCell k c) 0 (0 : Fin 4))
      ∗ (bigSep Finset.univ fun k => dutyTok ER (rCell k (tgt (grp k) c)) 0 (0 : Fin 4))
      ∗ bigSep (Finset.univ.filter fun k => act k (zOf c) = true) fun k => atPos ER (sCell k c) 0 (∅ : Finset (Fin 4)) 0)
    ⊢ (bigSep (unsent (zOf c) 0) (pend' c) : sProp 𝕄) := by
  have h : (bigSep (unsent (zOf c) 0) (pend' c) : sProp 𝕄) = iprop((bigSep (unsent (zOf c) 0) fun k => dutyTok ER (sCell k c) 0 (0 : Fin 4))
      ∗ (bigSep (unsent (zOf c) 0) fun k => dutyTok ER (rCell k (tgt (grp k) c)) 0 (0 : Fin 4))
      ∗ bigSep (unsent (zOf c) 0) fun k => atPos ER (sCell k c) 0 (∅ : Finset (Fin 4)) 0) := by
    rw [← bigSep_sep', ← bigSep_sep']; rfl
  have sub (Φ : Lane → sProp 𝕄) : bigSep Finset.univ Φ ⊢ bigSep (unsent (zOf c) 0) Φ := bigSep_subset (Finset.subset_univ _)
  rw [h, ← unsent_zero]
  iintro ⟨H1, H2, H3⟩
  isplitl [H1]
  · iapply (sub _); iexact H1
  isplitl [H2]
  · iapply (sub _); iexact H2
  · iexact H3
omit [FloatOps F] in
/-- and so are those on which arrivals are due. -/
theorem lanes_exp (c : Dev nD) : iprop((bigSep (due (zOf c) 0) fun k => cred (tallyAt (rCell k c) () N))
      ∗ bigSep (Finset.univ.filter fun k => ract k (zOf c) = true) fun k => atPos ER (rCell k c) 0 (∅ : Finset (Fin 4)) 0)
    ⊢ (bigSep (due (zOf c) 0) (exp c) : sProp 𝕄) := by
  rw [← due_zero, ← bigSep_sep']; exact Entails.of_eq rfl
omit [FloatOps F] in
/-- The signals, each with what it hands over. -/
theorem calls (c : Dev nD) : iprop((bigSep Finset.univ fun s : Fin 4 => dutyTok ER (barCell (pays c s).1) 0 (pays c s).2)
      ∗ bigSep (later 0) fun s => barPay (pays c s).1 (pays c s).2)
    ⊢ (bigSep (later 0) (call c) : sProp 𝕄) := by
  rw [show later 0 = Finset.univ from by decide, ← bigSep_sep']; exact Entails.of_eq rfl

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m ρ c)
      ⊢ |={Set.univ}=> iprop(start m ρ c ∗ emp) := by
  rw [Pipeline.unscopedRestP_none, unscopedRest0_eq, credit]
  unfold given mine payToks
  rw [cel_split, both (fun k => act k (zOf c)) fun k => atPos ER (kcell (c, iS k)) 0 (∅ : Finset (Fin 4)) 0,
    both (fun k => ract k (zOf c)) fun k => atPos ER (kcell (c, iR k)) 0 (∅ : Finset (Fin 4)) 0]
  iintro ⟨Hm, HL, ⟨Hcr, Hcb⟩, -, ⟨%K, #HR, ⟨Hb, Hc, ⟨Hs, Hsi⟩, ⟨Hr, Hri⟩⟩, Htb, Htc, Hts, Htr⟩⟩
  imod (close_idle m ρ K c) $$ [Hsi Hri] with Hi
  · isplitr; · iexact HR
    isplitl [Hsi]; · iexact Hsi
    iexact Hri
  imodintro
  ihave Ha := (array_start c _) $$ Hm
  icases Ha with ⟨Ha, Hp⟩
  isplitl
  · unfold start
    isplitr; · iexists K; iexact HR
    isplitl [HL]; · iexact HL
    isplitl [Htb Hp]
    · iapply (calls c); isplitl [Htb] <;> iassumption
    isplitl [Hcb]; · iexact Hcb
    isplitl [Hb]; · iexact Hb
    isplitl [Hts Htr Hs]
    · iapply (lanes_pend c)
      isplitl [Hts]; · iexact Hts
      isplitl [Htr]; · iexact Htr
      iexact Hs
    isplitl [Hcr Hr]
    · iapply (lanes_exp c); isplitl [Hcr]; · iexact Hcr
      iexact Hr
    isplitr [Hi]
    · isplitl [Ha]; · iexact Ha
      isplitl [Htc]; · iexact Htc
      iexact Hc
    · iexact Hi
  · iempintro

/-! ## The body in its pipeline -/

/-- What a device ends with, but for its argument. -/
def ended (c : Dev nD) : sProp 𝕄 :=
  iprop((((c : Thread nD τ).loc main_v1) ↦{fullShare} (G m ρ : Buf (Elt F) ((c : Thread nD τ).loc main_v1))) ∗ zeros c ∗ semVal (barCell c) 0)

/-- The pipeline around the body: it stages the argument, which the body leaves as it is. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
  Φ t := match t with
    | ⟨0, _⟩ => start m ρ c
    | ⟨_ + 1, _⟩ => ended m ρ c
  q _ := fullShare
  owed t := match t with
    | ⟨0, _⟩ => O₀ c
    | ⟨_ + 1, _⟩ => 0

omit [FloatOps F] in
/-- A whole buffer held at contents. -/
theorem owns_arg (c : Dev nD) (X : (cc0_stg0_0 : Ref sig .tc).ty.Contents (Elt F)) :
    (owns (Ix := Unit) (Name := ℕ) (U := UU) (Lvl := ℕ) (c : Thread nD τ) xM fullShare X : sProp 𝕄)
      = iprop(∃ f : Buf (Elt F) (xM.view.loc (c : Thread nD τ)), ⌜f = X⌝ ∗ (xM.view.loc (c : Thread nD τ) ↦[xM.view.set]{fullShare} f)) := by
  unfold owns; simp only [Memref.view_whole, View.read_whole]
/-- What is staged is the device's argument. -/
theorem before_arg (c : Dev nD) (d) : (dats (F := F) m ρ 0 c).before (0 : Fin 1) t0_0 d = xs m ρ c := by
  unfold Dat.before; rw [if_pos (fetch0_0 t0_0)]; rfl

/-- What the pipeline gives the body lets it begin, -/
theorem body_pre (c : Dev nD) :
    iprop(start m ρ c ∗ (dats m ρ 0 c).owesAt () t0_0.castSucc ∗ ∃ d, owns (c : Thread nD τ) xM fullShare ((dats m ρ 0 c).before (0 : Fin 1) t0_0 d))
      ⊢ iprop(∃ K, Bar m ρ K c 0 ∗ idle (F := F) c) := by
  unfold Dat.owesAt Pipeline.owesWithin
  rw [show (dats m ρ 0 c).owed t0_0.castSucc = O₀ c from rfl]
  iintro ⟨Hs, ⟨%W, -, HO⟩, ⟨%d, Hx⟩⟩
  ihave Hx' := (Entails.of_eq (owns_arg c _)) $$ Hx
  icases Hx' with ⟨%f, %hf, Hx⟩
  have hx : f = xs m ρ c := hf.trans (before_arg m ρ c d)
  subst hx
  iapply (begin m ρ c W)
  isplitl [Hs]; · iexact Hs
  isplitl [HO]; · iexact HO
  unfold arg; iexact Hx
/-- and what the body ends with is what the pipeline asks. -/
theorem body_post (c : Dev nD) (K : Dev nD × Cel → ℕ) : iprop((St m ρ K c END ∗ semVal (barCell c) 0) ∗ idle (F := F) c)
    ⊢ iprop(ended m ρ c ∗ (dats m ρ 0 c).owesAt () t0_0.succ ∗ owns (c : Thread nD τ) xM fullShare (xs m ρ c)) := by
  unfold Dat.owesAt Pipeline.owesWithin ended
  rw [show (dats m ρ 0 c).owed t0_0.succ = 0 from rfl, owns_arg]
  iintro ⟨⟨HS, Hb⟩, Hi⟩
  ihave H := (finish m ρ c) $$ [HS Hi]
  · isplitl [HS]
    · iexists K; iexact HS
    · iexact Hi
  icases H with ⟨Hm, Hz, ⟨%W, HO⟩, Ha⟩
  isplitl [Hm Hz Hb]
  · isplitl [Hm]; · iexact Hm
    isplitl [Hz] <;> iassumption
  isplitl [HO]
  · iexists W
    isplitr; · ipureintro; exact fun _ _ => Or.inl trivial
    iexact HO
  · iexists _
    isplitr; · ipureintro; rfl
    iapply (Entails.of_eq (arg.eq_def m ρ c fullShare)); iexact Ha

/-- The body does what its pipeline asks. -/
theorem body_obligation (c : Dev nD) : BodyObligation (dats (F := F) m ρ 0 c) (defs₀ (F := F)) 𝒱₀ () Set.univ := fun t => by
  rw [fin_N0 t]
  rw [bigSep_W0, bigSep_W0]
  show iprop(start m ρ c ∗ (dats m ρ 0 c).owesAt () t0_0.castSucc ∗ (∃ d, owns (c : Thread nD τ) xM fullShare ((dats m ρ 0 c).before (0 : Fin 1) t0_0 d)))
    ⊢ WP c (bodyAt0 t0_0) (fun _ => iprop(ended m ρ c ∗ (dats m ρ 0 c).owesAt () t0_0.succ ∗ owns (c : Thread nD τ) xM fullShare (xs m ρ c)))
  refine (body_pre m ρ c).trans (exists_elim fun K => ?_)
  exact (keep (body m ρ K c)).trans (wp_mono _ _ _ fun _ => body_post m ρ c K)

/-! ## The launch -/

/-- The kernel's own semaphores are its own and apart from one another and from the staging's. -/
theorem own_facts : Pipeline.OwnSemFacts cfg0.spec osem where
  isScoped o := by rcases o with ⟨⟩ | k | k <;> first | rfl | (revert k; decide +kernel)
  inj o o' e := Sum.inr_injective (isem_inj (a₁ := .inr o) (a₂ := .inr o') e)
  disj o w s := by
    rcases o with u | k | k
    · revert u w s; decide +kernel
    · revert w s k; decide +kernel
    · revert w s k; decide +kernel

/-- The argument is held at the full share. -/
theorem share_eq (c : Dev nD) (w : Fin cfg0.W) : (dats m ρ 0 c).share w = fullShare := by unfold Dat.share; split <;> rfl

/-- The pipeline's scratch is nothing, so the body starts from what the device was given. -/
theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨H, -, -⟩; iexact H
/-- In the end the gathered array and the barrier's counter are left, and the kernel's own counters go back. -/
theorem phi_last (c : Dev nD) :
    (dats m ρ 0 c).Φ (Fin.last cfg0.N) ⊢ iprop((unscopedSems0 c
        ∗ (((c : Thread nD τ).loc main_v1) ↦{fullShare} (G m ρ : Buf (Elt F) ((c : Thread nD τ).loc main_v1))))
      ∗ Pipeline.ownSems0 osem c ∗ Pipeline.scopedRest cfg0.spec c) := by
  rw [show (dats m ρ 0 c).Φ (Fin.last cfg0.N) = ended m ρ c from rfl, scopedRest0_eq, own_zero, bar_zero]
  unfold ended
  iintro ⟨Hm, Hz, Hb⟩
  isplitl [Hm Hb]
  · isplitl [Hb] <;> iassumption
  isplitl [Hz]; · iexact Hz
  iempintro

/-- The staging's waits rank lowest. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w; fin_cases s; rfl) _ (by
      rcases t with ⟨_ | _, ht⟩
      · exact Or.inl rfl
      · exact Or.inr rfl)

/-- The barrier's counter and the gathered array, as a final memory has them. -/
theorem read_end (c : Dev nD) (s' : Phys nD τ sig (Elt F)) :
    iprop((unscopedSems0 c ∗ (((c : Thread nD τ).loc main_v1) ↦{fullShare} (G m ρ : Buf (Elt F) ((c : Thread nD τ).loc main_v1)))) ∗ SI s')
      ⊢ (|={Set.univ}=> iprop(⌜(∀ sm : SemLoc sig, sm.isScoped .tc = false → s'.mem.sem ((c.tc : Thread nD τ), sm) = 0)
        ∧ s'.mem.mem ((c : Thread nD τ).loc main_v1) = G m ρ⌝ ∗ SI s') : sProp 𝕄) := by
  iintro ⟨⟨Hu, Hm⟩, HSI⟩
  ihave H := (pointsTo_read_all (Finset.univ : Finset Unit) (fun _ => (c : Thread nD τ).loc main_v1) (fun _ => G m ρ) s') $$ [Hm HSI]
  · isplitl [Hm]
    · iapply (Entails.of_eq (bigSep_univ_of_subsingleton ()).symm); iexact Hm
    · iexact HSI
  icases H with ⟨%h, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨hu, h () (Finset.mem_univ _)⟩
  · iexact HSI

/-- What the run leaves. -/
def Left (s : MemSt nD τ sig (Elt F)) : Prop :=
  ∀ c : Dev nD, s.mem ((c : Thread nD τ).loc main_v1) = G m ρ ∧ s.mem ((c : Thread nD τ).loc main_arg0) = m ((c : Thread nD τ).loc main_arg0)

/-- From any memory with zero counters every weakly fair execution ends; then every device has the gathered array, its
    argument is as it was, and every counter is at zero. -/
theorem run_main : θ_run defs (onTc (τ := τ) (main (F := F))) (s₀ m ρ) (fun r => Left m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w; exact block_pos0 0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := deal m ρ) (G' := given m ρ) (u₀ := u₀)
    (hu₀ := by
      unfold u₀
      iintro Hu
      ihave H := (ownU_pair _ _) $$ Hu
      icases H with ⟨HP, HX⟩
      imod (deal_all m ρ) $$ HX with HG
      imodintro
      isplitl [HP] <;> iassumption)
    (hglob := glob m ρ)
    (hA := fun _ _ => rfl) (hpf := fun _ k => k.elim0)
    (X := start m ρ) (Y := fun c => iprop(unscopedSems0 c
        ∗ (((c : Thread nD τ).loc main_v1) ↦{fullShare} (G m ρ : Buf (Elt F) ((c : Thread nD τ).loc main_v1))))) (Z := fun _ => iprop(emp))
    (hX := start_intro m ρ) (hin := phi_first m ρ) (hout := phi_last m ρ)
    (QY := fun c s => (∀ sm : SemLoc sig, sm.isScoped .tc = false → s.sem ((c.tc : Thread nD τ), sm) = 0) ∧ s.mem ((c : Thread nD τ).loc main_v1) = G m ρ)
    (hY := fun c s' => by
      iintro ⟨H, -, HSI⟩
      iapply (read_end m ρ c s')
      isplitl [H] <;> iassumption)
    (hQ := fun s h hs => ⟨fun c => ⟨(h c).2.2.2, ((h c).1 (0 : Fin 1)).trans ((dats (F := F) m ρ 0 c).arrAt_in (0 : Fin 1) rfl _)⟩, sem_eq_zero hs fun c => (h c).2.2.1⟩)

end Cert.KernelIdeal.Gather

end
-- ==== Proof.KernelIdeal.Value.lean ====
/-
  What the gathered array is, when the arguments of the devices are the blocks of one array: that array.
-/
module

public import proofs.«01_k».proof.Proof.KernelIdeal.Sched
public import Idealize.ShloMosaic.Lib.Layout

@[expose] public section

noncomputable section

namespace Cert.KernelIdeal.Gather

open Cert.KernelIdeal Cert.KernelIdeal.Gen Cert.Plan
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

variable (m : (ℓ : Loc nD τ sig) → Buf (Elt F) ℓ) (ρ : Dev nD → PrngReg)

set_option backward.proofsInPublic true in
omit [FloatOps F] in
/-- The argument as it's staged is the argument as it lies in memory. -/
theorem xs_at (b : Dev nD) : xs m ρ b = m ((b : Thread nD τ).loc main_arg0) := by
  funext x
  show m ((b : Thread nD τ).loc main_arg0) ((win0_0.blk (0 : Fin 1)).view.emb x) = _
  congr 1
  funext a
  apply Fin.ext
  match a with
  | (0 : Fin 2) => show 0 + 1 * (x (0 : Fin 2)).val = _; omega
  | (1 : Fin 2) => show 0 + 1 * (x (1 : Fin 2)).val = _; omega

omit [FloatOps F] in
/-- If every device's argument is its block of an array, the gathered array is that array. -/
theorem gathered (v : (main_v1 : Ref sig .tc).ty.Contents (Elt F))
    (h : ∀ c : Dev nD, m ((c : Thread nD τ).loc main_arg0) = Layout.block ⟨2, ![2048, 512]⟩ ⟨2, ![65536, 512]⟩ 0 32 c v) :
    G m ρ = v := by
  funext i
  unfold G
  rw [xs_at, h]
  refine congrArg v (funext fun a => Fin.ext ?_)
  match a with
  | (0 : Fin 2) => exact Nat.div_add_mod' _ 2048
  | (1 : Fin 2) => rfl

end Cert.KernelIdeal.Gather

end
-- ==== Proof.lean ====
/- The five claims: the frames of the kernel, of its idealization and of the reference, that the idealization keeps the
   kernel's operations, and that the kernel gathers the array the reference returns. -/
module

public import proofs.«01_k».proof.Defs
public import proofs.«01_k».proof.Proof.Kernel.Run
public import proofs.«01_k».proof.Proof.KernelIdeal.Run
public import proofs.«01_k».proof.Proof.KernelIdeal.Value
public import proofs.«01_k».proof.Proof.Gen.Kernel
public import proofs.«01_k».proof.Proof.Gen.KernelIdeal
public import proofs.«01_k».proof.Proof.Gen.ReferenceIdeal
public import Idealize.ShloMosaic.Lib.Claim
public import Idealize.ShloMosaic.Lib.StableHlo.RunHlo

@[expose] public section

noncomputable section

namespace Cert.Proof

open Idealize.ShloMosaic Idealize.SL.Sem

/-- The reference runs and leaves its argument, which it returns, as it was. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) := by
  hlo_run

/-- The kernel runs, leaves its argument as it was, and ends with every semaphore at zero. -/
theorem quiescent_kernel : Cert.quiescent_Kernel := fun m g _ =>
  (θ_run Cert.Kernel.defs _ _).mono (fun _ h => ⟨fun c => (h.1 c).2, h.2⟩) (Cert.Kernel.Gather.run_main (F := Bits) m g)

/-- So does its idealization. -/
theorem quiescent_kernelIdeal : Cert.quiescent_KernelIdeal := fun m g _ =>
  (θ_run Cert.KernelIdeal.defs _ _).mono (fun _ h => ⟨fun c => (h.1 c).2, h.2⟩) (Cert.KernelIdeal.Gather.run_main (F := Ideal) m g)

/-- So does the reference, which has no semaphore at all. -/
theorem quiescent_reference : Cert.quiescent_ReferenceIdeal := fun m g _ =>
  (θ_run Cert.ReferenceIdeal.defs _ _).mono (fun r h => ⟨h, sem_eq_zero_of_no_sems (by decide) r.2⟩) (reference_run m g)

/-- From the blocks of an array every device gathers that array, which is what the reference returns. -/
theorem algebraic : Cert.algebraic_KernelIdeal_ReferenceIdeal := fun m g m' g' _ hagree =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.KernelIdeal.Gather.gathered m g _ hagree), (h.1 c).2⟩)
      (Cert.KernelIdeal.Gather.run_main (F := Ideal) m g),
    (θ_run Cert.ReferenceIdeal.defs _ _).mono (fun _ h => ⟨h 0, h 0⟩) (reference_run m' g')⟩

/-- All the claims. -/
theorem claim : Cert.Claim :=
  ⟨Cert.Kernel.Gen.facts, Cert.KernelIdeal.Gen.facts, Cert.ReferenceIdeal.Gen.facts,
    quiescent_kernel, quiescent_kernelIdeal, quiescent_reference, trivial, algebraic⟩

end Cert.Proof

end
